-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smooth" .f32 0x3DCCCCCD#32 ((439804653731 / 4398046511104 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S2048x100000 : Shape := ⟨2, ![2048, 100000]⟩
abbrev S2048 : Shape := ⟨1, ![2048]⟩
abbrev S_ : Shape := ⟨0, ![]⟩
abbrev S2048x1 : Shape := ⟨2, ![2048, 1]⟩

class Facts : Prop where
  bcast_S_S2048x100000 : S_.BroadcastsInDim S2048x100000 (![] : Fin 0 → Fin S2048x100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x100000_0_1 : S2048x1.BroadcastsInDim S2048x100000 (![0, 1] : Fin 2 → Fin S2048x100000.rank)

variable [Facts]

def fn {F : FTy → Type} [FloatOps F] (main_arg0 : FVec F S2048x100000 .f32) (main_arg1 : IVec S2048 32) : IVec S2048x100000 1 :=
  let main_v0 : FVec F S2048x100000 .f32 := Host.absf main_arg0
  let main_cst : FVec F S_ .f32 := constant S_ .f32 0x7F800000#32
  let main_v1 : FVec F S2048x100000 .f32 := broadcastInDim S2048x100000 ![] bcast_S_S2048x100000 main_cst
  let main_v2 : IVec S2048x100000 1 := cmpf .olt main_v0 main_v1
  let main_c : IVec S_ 32 := constantI S_ 32 0#32
  let main_v3 : IVec S2048 32 := broadcastInDim S2048 ![] bcast_S_S2048 main_c
  let main_v4 : IVec S2048 1 := cmpi .sge main_arg1 main_v3
  let main_c_0 : IVec S_ 32 := constantI S_ 32 100000#32
  let main_v5 : IVec S2048 32 := broadcastInDim S2048 ![] bcast_S_S2048 main_c_0
  let main_v6 : IVec S2048 1 := cmpi .slt main_arg1 main_v5
  let main_v7 : IVec S2048 1 := andi main_v4 main_v6
  let main_v8 : IVec S2048x1 1 := broadcastInDim S2048x1 ![0] bcast_S2048_S2048x1_0 main_v7
  let main_v9 : IVec S2048x100000 1 := broadcastInDim S2048x100000 ![0, 1] bcast_S2048x1_S2048x100000_0_1 main_v8
  let main_v10 : IVec S2048x100000 1 := andi main_v2 main_v9
  main_v10
-- ==== Kernel.lean ====
abbrev S2048x100000 : Shape := ⟨2, ![2048, 100000]⟩
abbrev S2048 : Shape := ⟨1, ![2048]⟩
abbrev S2048x1 : Shape := ⟨2, ![2048, 1]⟩
abbrev S8x1x1 : Shape := ⟨3, ![8, 1, 1]⟩
abbrev S_ : Shape := ⟨0, ![]⟩
abbrev S256x10240 : Shape := ⟨2, ![256, 10240]⟩
abbrev S256x1 : Shape := ⟨2, ![256, 1]⟩
abbrev S1x1x1 : Shape := ⟨3, ![1, 1, 1]⟩
abbrev S256x128 : Shape := ⟨2, ![256, 128]⟩
abbrev S256 : Shape := ⟨1, ![256]⟩
abbrev S1x256x1 : Shape := ⟨3, ![1, 256, 1]⟩
abbrev S1 : Shape := ⟨1, ![1]⟩
abbrev S1x1 : Shape := ⟨2, ![1, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S2048x1, .i32⟩
  | .hbm, ⟨3, _⟩ => ⟨S8x1x1, .f32⟩
  | .hbm, ⟨4, _⟩ => ⟨S_, .f32⟩
  | .hbm, ⟨5, _⟩ => ⟨S_, .f32⟩
  | .local _ .vmem, ⟨0, _⟩ => ⟨S256x10240, .f32⟩
  | .local _ .vmem, ⟨1, _⟩ => ⟨S256x10240, .f32⟩
  | .local _ .vmem, ⟨2, _⟩ => ⟨S256x1, .i32⟩
  | .local _ .vmem, ⟨3, _⟩ => ⟨S256x1, .i32⟩
  | .local _ .vmem, ⟨4, _⟩ => ⟨S1x1x1, .f32⟩
  | .local _ .vmem, ⟨5, _⟩ => ⟨S1x1x1, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1, .f32⟩
  | _, _ => ⟨S2048x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c9_i32_3 : BitVec 32 := 9#32
  let v9 : BitVec 1 := Scalar.cmpi .eq arg1 c9_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KernelIdeal.lean ====
variable {F : FTy → Type} [FloatOps F] [Named F]
def κ : String → Option EReal := fun
  | "smooth" => some ((439804653731 / 4398046511104 : ℝ) : EReal)
  | _ => none
-- ==== ReferenceIdeal.lean ====
abbrev S2048x100000 : Shape := ⟨2, ![2048, 100000]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1 : Shape := ⟨1, ![1]⟩

abbrev nBuf : Space → Nat
  | .hbm => 73
  | .vmem => 0
  | .smem => 0
  | _ => 0

abbrev bufTy : (tb : Table) → Fin (tcTables nBuf tb) → BufTy
  | .hbm, ⟨0, _⟩ => ⟨S2048x100000, .f32⟩
  | .hbm, ⟨1, _⟩ => ⟨S2048, .i32⟩
  | .hbm, ⟨2, _⟩ => ⟨S_, .f32⟩
  | .hbm, ⟨3, _⟩ => ⟨S2048x100000, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S2048x1, .i32⟩
  | .hbm, ⟨21, _⟩ => ⟨S2048x2, .i32⟩
  | .hbm, ⟨22, _⟩ => ⟨S_, .f32⟩
  | .hbm, ⟨23, _⟩ => ⟨S2048, .f32⟩
  | .hbm, ⟨24, _⟩ => ⟨S2048x100000, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S2048, .f32⟩
  | .hbm, ⟨29, _⟩ => ⟨S2048x100000, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S_, .f32⟩
  | .hbm, ⟨35, _⟩ => ⟨S_, .f32⟩
  | .hbm, ⟨36, _⟩ => ⟨S2048x100000, .i1⟩
  | .hbm, ⟨37, _⟩ => ⟨S2048x100000, .f32⟩
  | .hbm, ⟨38, _⟩ => ⟨S2048x100000, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1, .f32⟩
  | .hbm, ⟨45, _⟩ => ⟨S2048x100000, .f32⟩
  | .hbm, ⟨46, _⟩ => ⟨S2048x100000, .f32⟩
  | .hbm, ⟨47, _⟩ => ⟨S2048x100000, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1, .f32⟩
  | .hbm, ⟨52, _⟩ => ⟨S2048x100000, .f32⟩
  | .hbm, ⟨53, _⟩ => ⟨S2048x100000, .f32⟩
  | .hbm, ⟨54, _⟩ => ⟨S_, .f32⟩
  | .hbm, ⟨55, _⟩ => ⟨S2048x100000, .f32⟩
  | .hbm, ⟨56, _⟩ => ⟨S2048x100000, .i1⟩
  | .hbm, ⟨57, _⟩ => ⟨S_, .f32⟩
  | .hbm, ⟨58, _⟩ => ⟨S_, .f32⟩
  | .hbm, ⟨59, _⟩ => ⟨S2048x100000, .f32⟩
  | .hbm, ⟨60, _⟩ => ⟨S2048x100000, .f32⟩
  | .hbm, ⟨61, _⟩ => ⟨S_, .f32⟩
  | .hbm, ⟨62, _⟩ => ⟨S2048x100000, .f32⟩
  | .hbm, ⟨63, _⟩ => ⟨S2048x100000, .i1⟩
  | .hbm, ⟨64, _⟩ => ⟨S2048x100000, .f32⟩
  | .hbm, ⟨65, _⟩ => ⟨S2048x100000, .f32⟩
  | .hbm, ⟨66, _⟩ => ⟨S2048x100000, .f32⟩
  | .hbm, ⟨67, _⟩ => ⟨S_, .f32⟩
  | .hbm, ⟨68, _⟩ => ⟨S_, .f32⟩
  | .hbm, ⟨69, _⟩ => ⟨S2048x100000, .f32⟩
  | .hbm, ⟨70, _⟩ => ⟨S2048x100000, .f32⟩
  | .hbm, ⟨71, _⟩ => ⟨S_, .f32⟩
  | .hbm, ⟨72, _⟩ => ⟨S_, .f32⟩
  | _, _ => ⟨S2048x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v24 : Ref sig .tc := ⟨.hbm, 53, rfl⟩
abbrev main_cst_8 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_v27 : Ref sig .tc := ⟨.hbm, 60, rfl⟩
abbrev main_cst_10 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩

abbrev nD : Nat := 1
abbrev τ : Topo := Topo.v7x

variable {F : FTy → Type} [FloatOps F]
-- ==== Proof.Block.lean ====
/-
  What one grid point computes on a 256-row block, as plain functions of the block's contents. A block is eighty
  chunks of 128 columns. Per row and lane the kernel keeps a running maximum, a sum of exponentials relative to that
  maximum, a plain sum, and the entry at the label's column; each is a fold over the chunks.
-/
module

public import proofs.«01_k».proof.KernelIdeal
public import proofs.«01_k».proof.Proof.Gen.KernelIdeal
public import Idealize.ShloMosaic.Lib.Memref

@[expose] public section

noncomputable section

namespace Cert.KernelIdeal.Block

open Cert.KernelIdeal Cert.KernelIdeal.Gen
open Idealize.ShloMosaic

variable {F : FTy → Type} [FloatOps F]

/-- Chunk `k` lies inside the block. -/
theorem chunk_inb (k : Fin 80) : ∀ a, (![0, 128 * k.val] : Fin 2 → ℕ) a + S256x128.size a ≤ S256x10240.size a := by
  intro a
  have := k.isLt
  fin_cases a
  · show 0 + 256 ≤ 256; omega
  · show 128 * k.val + 128 ≤ 10240; omega

/-- Columns `128 k ‥ 128 k + 127` of a block. -/
def chunk (X : Vec F S256x10240 .f32) (k : Fin 80) : Vec F S256x128 .f32 :=
  fun j => X ((Rect.unit (s := S256x10240) ![0, 128 * k.val] S256x128.size (chunk_inb k)).toLoadRect.idx j)

/-- The lane-wise maximum of chunks `0 ‥ n`. -/
def maxUpTo (ch : Fin 80 → Vec F S256x128 .f32) : (n : ℕ) → n < 80 → Vec F S256x128 .f32
  | 0, h => ch ⟨0, h⟩
  | n + 1, h => maximumf (maxUpTo ch n (Nat.lt_of_succ_lt h)) (ch ⟨n + 1, h⟩)

/-- The start value plus the exponentials of the first `n` chunks relative to `mx`. -/
def expSum (ch : Fin 80 → Vec F S256x128 .f32) (mx init : FVec F S256x128 .f32) : (n : ℕ) → n ≤ 80 → FVec F S256x128 .f32
  | 0, _ => init
  | n + 1, h => addf (expSum ch mx init n (Nat.le_of_succ_le h)) (exp (subf (ch ⟨n, h⟩) mx))

/-- The start value plus the first `n` chunks. -/
def plainSum (ch : Fin 80 → Vec F S256x128 .f32) (init : FVec F S256x128 .f32) : (n : ℕ) → n ≤ 80 → FVec F S256x128 .f32
  | 0, _ => init
  | n + 1, h => addf (plainSum ch init n (Nat.le_of_succ_le h)) (ch ⟨n, h⟩)

/-- The first column of a block. -/
def firstCol (X : Vec F S256x10240 .f32) : Vec F S256x1 .f32 :=
  fun j => X ((Rect.unit (s := S256x10240) ![0, 0] S256x1.size inb_S256x10240_S256x1_0_0).toLoadRect.idx j)

/-- The lane numbers `0 ‥ 127` along each row. -/
def lanes : IVec S256x128 32 := iota .tc S256x128 32 [1] iota_S256x128_d1_w32

/-- The zero vector. -/
def zeros : FVec F S256x128 .f32 := broadcast S256x128 (Scalar.ofBits .f32 0#32)

/-- The vector of `−∞`. -/
def negInfs : FVec F S256x128 .f32 := broadcast S256x128 (Scalar.ofBits .f32 0xFF800000#32)

/-- A chunk where the lane is the label's column counted from the chunk's first, zero elsewhere. -/
def atLabel (yb : IVec S256x1 32) (n : ℕ) (v : FVec F S256x128 .f32) : FVec F S256x128 .f32 :=
  select (cmpi .eq lanes (broadcastTo S256x128 (subi yb (broadcast S256x1 (BitVec.ofNat 32 (128 * n)))) broadcasts_S256x1_S256x128)) v zeros

/-- The start value plus the entries at the label's column of the first `n` chunks. -/
def labelSum (ch : Fin 80 → Vec F S256x128 .f32) (yb : IVec S256x1 32) (init : FVec F S256x128 .f32) : (n : ℕ) → n ≤ 80 → FVec F S256x128 .f32
  | 0, _ => init
  | n + 1, h => addf (labelSum ch yb init n (Nat.le_of_succ_le h)) (atLabel yb n (ch ⟨n, h⟩))

/-- The label counted from the first column of column block `j`. -/
def labelIn (y : IVec S256x1 32) (j : ℕ) : IVec S256x1 32 :=
  subi y (broadcast S256x1 (Scalar.muli (BitVec.ofNat 32 j) 10240#32))

/-! ## A block all of whose columns are in the array -/

/-- The running maximum after a full block. -/
def fullMax (X : Vec F S256x10240 .f32) (m : FVec F S256x128 .f32) : FVec F S256x128 .f32 :=
  maximumf m (maxUpTo (chunk X) 79 (by decide))

/-- The sum of exponentials after a full block: the old one rescaled to the new maximum, plus the block's. -/
def fullExp (X : Vec F S256x10240 .f32) (m s : FVec F S256x128 .f32) : FVec F S256x128 .f32 :=
  expSum (chunk X) (fullMax X m) (mulf s (exp (subf m (fullMax X m)))) 80 (Nat.le_refl _)

/-- The plain sum after a full block. -/
def fullSum (X : Vec F S256x10240 .f32) (r : FVec F S256x128 .f32) : FVec F S256x128 .f32 :=
  plainSum (chunk X) r 80 (Nat.le_refl _)

/-- The entry at the label after a full block. -/
def fullLabel (X : Vec F S256x10240 .f32) (y : IVec S256x1 32) (j : ℕ) (l : FVec F S256x128 .f32) : FVec F S256x128 .f32 :=
  labelSum (chunk X) (labelIn y j) l 80 (Nat.le_refl _)

/-! ## The last block of a row block

Of its columns 7840 are in the array: chunks `0 ‥ 60` and the first 32 lanes of chunk 61. -/

/-- The lanes of chunk 61 that are in the array. -/
def inTail : IVec S256x128 1 := cmpi .slt lanes (broadcast S256x128 32#32)

/-- Chunk 61 with `−∞` past the array's last column. -/
def tailLow (X : Vec F S256x10240 .f32) : FVec F S256x128 .f32 := select inTail (chunk X 61) negInfs

/-- Chunk 61 with zero past the array's last column. -/
def tailZero (X : Vec F S256x10240 .f32) : FVec F S256x128 .f32 := select inTail (chunk X 61) zeros

/-- The running maximum after the last block. -/
def lastMax (X : Vec F S256x10240 .f32) (m : FVec F S256x128 .f32) : FVec F S256x128 .f32 :=
  maximumf m (maximumf (maxUpTo (chunk X) 60 (by decide)) (tailLow X))

/-- The sum of exponentials after the last block. -/
def lastExp (X : Vec F S256x10240 .f32) (m s : FVec F S256x128 .f32) : FVec F S256x128 .f32 :=
  addf (expSum (chunk X) (lastMax X m) (mulf s (exp (subf m (lastMax X m)))) 61 (by decide)) (exp (subf (tailLow X) (lastMax X m)))

/-- The plain sum after the last block. -/
def lastSum (X : Vec F S256x10240 .f32) (r : FVec F S256x128 .f32) : FVec F S256x128 .f32 :=
  addf (plainSum (chunk X) r 61 (by decide)) (tailZero X)

/-- The entry at the label after the last block. -/
def lastLabel (X : Vec F S256x10240 .f32) (y : IVec S256x1 32) (j : ℕ) (l : FVec F S256x128 .f32) : FVec F S256x128 .f32 :=
  addf (labelSum (chunk X) (labelIn y j) l 61 (by decide)) (atLabel (labelIn y j) 61 (tailZero X))

end Cert.KernelIdeal.Block

end
-- ==== Proof.Columns.lean ====
/-
  Which columns of a block a grid point's results depend on: a full block's on all of them, the last block's on the
  first 7840 only, the columns that are in the array.
-/
module

public import proofs.«01_k».proof.Proof.Block
public import Idealize.ShloMosaic.Lib.WordCmp
public import Idealize.ShloMosaic.Lib.Pipeline.Value

@[expose] public section

noncomputable section

namespace Cert.KernelIdeal.Block

open Cert.KernelIdeal Cert.KernelIdeal.Gen
open Idealize.ShloMosaic

variable {F : FTy → Type} [FloatOps F]

/-- Column `128 k + q` of a block, at row `p`. -/
def cell (p : Fin 256) (q : ℕ) (hq : q < 10240) : S256x10240.Idx := fun
  | ⟨0, _⟩ => p
  | ⟨1, _⟩ => (⟨q, hq⟩ : Fin 10240)

/-- A chunk's entry is the block's at the chunk's first column plus the lane. -/
theorem chunk_apply (X : Vec F S256x10240 .f32) (k : Fin 80) (j : S256x128.Idx) :
    chunk X k j = X (cell (j 0) (128 * k.val + (j 1).val) (by have h : (j 1).val < 128 := (j 1).isLt; have := k.isLt; omega)) := by
  unfold chunk
  congr 1
  funext a
  fin_cases a
  · apply Fin.ext; show 0 + 1 * (j 0).val = (j 0).val; omega
  · apply Fin.ext; show 128 * k.val + 1 * (j 1).val = 128 * k.val + (j 1).val; omega

/-- The lane mask of the last block, lane by lane. -/
theorem inTail_iff (j : S256x128.Idx) : inTail j = 1#1 ↔ (j 1).val < 32 := by
  have h : (j 1).val < 128 := (j 1).isLt
  have e : inTail j = Scalar.cmpi .slt (BitVec.ofNat 32 (j 1).val) 32#32 :=
    congrArg (Scalar.cmpi .slt · 32#32) (iota_single_apply _ _ _ _ _ j)
  rw [e]
  word_cmp

/-- A selection at an entry. -/
theorem select_apply (v : IVec S256x128 1) (a b : FVec F S256x128 .f32) (j : S256x128.Idx) :
    select v a b j = if v j = 1#1 then a j else b j := rfl

/-- The running maximum over chunks reads only the chunks up to its last. -/
theorem maxUpTo_congr {ch ch' : Fin 80 → Vec F S256x128 .f32} (n : ℕ) (h : n < 80) (e : ∀ k : Fin 80, k.val ≤ n → ch k = ch' k) :
    maxUpTo ch n h = maxUpTo ch' n h := by
  induction n with
  | zero => exact e _ (Nat.le_refl _)
  | succ n ih => unfold maxUpTo; rw [ih _ fun k hk => e k (Nat.le_succ_of_le hk), e _ (Nat.le_refl _)]

/-- The running sum of exponentials reads only the chunks before its end. -/
theorem expSum_congr {ch ch' : Fin 80 → Vec F S256x128 .f32} (mx init : FVec F S256x128 .f32) (n : ℕ) (h : n ≤ 80)
    (e : ∀ k : Fin 80, k.val < n → ch k = ch' k) : expSum ch mx init n h = expSum ch' mx init n h := by
  induction n with
  | zero => rfl
  | succ n ih => unfold expSum; rw [ih _ fun k hk => e k (Nat.lt_succ_of_lt hk), e _ (Nat.lt_succ_self _)]

/-- The running sum reads only the chunks before its end. -/
theorem plainSum_congr {ch ch' : Fin 80 → Vec F S256x128 .f32} (init : FVec F S256x128 .f32) (n : ℕ) (h : n ≤ 80)
    (e : ∀ k : Fin 80, k.val < n → ch k = ch' k) : plainSum ch init n h = plainSum ch' init n h := by
  induction n with
  | zero => rfl
  | succ n ih => unfold plainSum; rw [ih _ fun k hk => e k (Nat.lt_succ_of_lt hk), e _ (Nat.lt_succ_self _)]

/-- The running sum at the label reads only the chunks before its end. -/
theorem labelSum_congr {ch ch' : Fin 80 → Vec F S256x128 .f32} (yb : IVec S256x1 32) (init : FVec F S256x128 .f32) (n : ℕ) (h : n ≤ 80)
    (e : ∀ k : Fin 80, k.val < n → ch k = ch' k) : labelSum ch yb init n h = labelSum ch' yb init n h := by
  induction n with
  | zero => rfl
  | succ n ih => unfold labelSum; rw [ih _ fun k hk => e k (Nat.lt_succ_of_lt hk), e _ (Nat.lt_succ_self _)]

/-- Two blocks that hold the same entries in the columns before 7840. -/
def Agree (X X' : Vec F S256x10240 .f32) : Prop := ∀ j : S256x10240.Idx, (j 1).val < 7840 → X j = X' j

variable {X X' : Vec F S256x10240 .f32}

/-- Blocks that agree before column 7840 have the same first 61 chunks. -/
theorem Agree.chunk (h : Agree X X') (k : Fin 80) (hk : k.val < 61) : chunk X k = chunk X' k := by
  funext j
  have hj : (j 1).val < 128 := (j 1).isLt
  rw [chunk_apply, chunk_apply]
  exact h _ (show 128 * k.val + (j 1).val < 7840 by omega)

/-- They have the same 62nd chunk once its lanes from 32 on are masked for the maximum. -/
theorem Agree.tailLow (h : Agree X X') : tailLow X = tailLow X' := by
  funext j
  unfold Block.tailLow
  rw [select_apply, select_apply]
  split
  · rename_i hj
    have := (inTail_iff j).mp hj
    rw [chunk_apply, chunk_apply]
    exact h _ (show 128 * 61 + (j 1).val < 7840 by omega)
  · rfl

/-- They have the same 62nd chunk once its lanes from 32 on are masked for the sums. -/
theorem Agree.tailZero (h : Agree X X') : tailZero X = tailZero X' := by
  funext j
  unfold Block.tailZero
  rw [select_apply, select_apply]
  split
  · rename_i hj
    have := (inTail_iff j).mp hj
    rw [chunk_apply, chunk_apply]
    exact h _ (show 128 * 61 + (j 1).val < 7840 by omega)
  · rfl

/-- They leave the same maxima. -/
theorem Agree.lastMax (h : Agree X X') (m : FVec F S256x128 .f32) : lastMax X m = lastMax X' m := by
  unfold Block.lastMax
  rw [h.tailLow, maxUpTo_congr 60 _ fun k hk => h.chunk k (by omega)]

/-- They leave the same sums of exponentials. -/
theorem Agree.lastExp (h : Agree X X') (m s : FVec F S256x128 .f32) : lastExp X m s = lastExp X' m s := by
  unfold Block.lastExp
  rw [h.tailLow, h.lastMax, expSum_congr _ _ 61 _ fun k hk => h.chunk k hk]

/-- They leave the same sums. -/
theorem Agree.lastSum (h : Agree X X') (r : FVec F S256x128 .f32) : lastSum X r = lastSum X' r := by
  unfold Block.lastSum
  rw [h.tailZero, plainSum_congr _ 61 _ fun k hk => h.chunk k hk]

/-- They leave the same entries at the label. -/
theorem Agree.lastLabel (h : Agree X X') (y : IVec S256x1 32) (j : ℕ) (l : FVec F S256x128 .f32) : lastLabel X y j l = lastLabel X' y j l := by
  unfold Block.lastLabel
  rw [h.tailZero, labelSum_congr _ _ 61 _ fun k hk => h.chunk k hk]

/-! ## The running state of a row block -/

/-- The running state: per row and lane the maximum, the sum of exponentials relative to it, the plain sum and the
    entry at the label; per row the first column's entry. -/
structure Running (F : FTy → Type) where
  top : Vec F S256x128 .f32
  exps : Vec F S256x128 .f32
  total : Vec F S256x128 .f32
  label : Vec F S256x128 .f32
  first : Vec F S256x1 .f32

/-- The running state after column block `j` of contents `X`, from the one before it (which the first column block does
    not read). -/
def Running.next (j : ℕ) (X : Vec F S256x10240 .f32) (y : IVec S256x1 32) (s : Running F) : Running F :=
  if j = 0 then ⟨fullMax X negInfs, fullExp X negInfs zeros, fullSum X zeros, fullLabel X y j zeros, firstCol X⟩
  else if j = 9 then ⟨lastMax X s.top, lastExp X s.top s.exps, lastSum X s.total, lastLabel X y j s.label, s.first⟩
  else ⟨fullMax X s.top, fullExp X s.top s.exps, fullSum X s.total, fullLabel X y j s.label, s.first⟩

/-- The last column block's state depends on the columns in the array only. -/
theorem Agree.next (h : Agree X X') (y : IVec S256x1 32) (s : Running F) : Running.next 9 X y s = Running.next 9 X' y s := by
  unfold Running.next
  rw [if_neg (by decide), if_pos rfl, if_neg (by decide), if_pos rfl, h.lastMax, h.lastExp, h.lastSum, h.lastLabel]

end Cert.KernelIdeal.Block

end
-- ==== Proof.FullBlock.lean ====
/-
  The kernel's body over a whole column block: its 80 chunks of 128 columns are taken into the running maxima, sums of
  exponentials, sums and entries at the label.
-/
module

public import proofs.«01_k».proof.Proof.Block
public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S256x10240 .f32) (harg2 : arg2.IsWhole) (arg3 : Memref sig .tc .vmem S256x1 .i32) (harg3 : arg3.IsWhole)
  (arg4 : Memref sig .tc .vmem S1x1x1 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S256x128 .f32) (harg8 : arg8.IsWhole) (arg9 : Memref sig .tc .vmem S256x1 .f32) (harg9 : arg9.IsWhole)

set_option maxHeartbeats 1600000 in
/-- The run of the part that takes in a whole column block: the pieces it leaves in the buffers of the maxima, the sums of
    exponentials and the sums, and the entries at the label, which it returns. -/
noncomputable def fullRun (y : IVec S256x1 32) (f2 : arg2.view.ty.Contents (Elt F)) (f5 : arg5.view.ty.Contents (Elt F)) (f6 : arg6.view.ty.Contents (Elt F))
    (f7 : arg7.view.ty.Contents (Elt F)) (f8 : arg8.view.ty.Contents (Elt F)) :
    Σ' (L5 L6 L7 : List (View.Piece (Elt F) S256x128 .f32)), { r : FVec F S256x128 .f32 //
      ∀ (E : Set ℕ) ,
        iprop((arg2.view.loc (c : Thread nD τ) ↦[arg2.view.set]{fullShare} f2) ∗ (arg5.view.loc (c : Thread nD τ) ↦[arg5.view.set]{fullShare} f5)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8))
        ⊢ (wp frame (wpE (defs₀ (F := F)) Variants.none c none) E
            (k0_part28 i arg2 harg2 arg3 harg3 arg4 harg4 arg5 harg5 arg6 harg6 arg7 harg7 arg8 harg8 arg9 harg9 (BitVec.ofNat 32 (i 1).val) y lanes)
            (fun r' => iprop(⌜r' = r⌝ ∗ (arg2.view.loc (c : Thread nD τ) ↦[arg2.view.set]{fullShare} f2)
              ∗ (arg5.view.loc (c : Thread nD τ) ↦[arg5.view.set]{fullShare} arg5.view.writes (Elt F) f5 L5)
              ∗ (arg6.view.loc (c : Thread nD τ) ↦[arg6.view.set]{fullShare} arg6.view.writes (Elt F) f6 L6)
              ∗ (arg7.view.loc (c : Thread nD τ) ↦[arg7.view.set]{fullShare} arg7.view.writes (Elt F) f7 L7)
              ∗ (arg8.view.loc (c : Thread nD τ) ↦[arg8.view.set]{fullShare} f8))) : sProp 𝕄) } := by
  refine ⟨?_, ?_, ?_, ?_, fun E => ?run⟩
  case run =>
    simp only [k0_part28_eq_skeleton]; unfold k0_part28_skel
    iintro ⟨H2, H5, H6, H7, H8⟩
    sl_exec_parts
    sl_step
    isplitr
    · ipureintro; rfl
    isplitl [H2]; · iexact H2
    isplitl [H5]; · iexact H5
    isplitl [H6]; · iexact H6
    isplitl [H7]; · iexact H7
    iexact H8

variable (y : IVec S256x1 32) (f2 : arg2.view.ty.Contents (Elt F)) (f5 : arg5.view.ty.Contents (Elt F)) (f6 : arg6.view.ty.Contents (Elt F))
    (f7 : arg7.view.ty.Contents (Elt F)) (f8 : arg8.view.ty.Contents (Elt F))

/-- That run, with every buffer named. -/
abbrev run := fullRun c i arg2 harg2 arg3 harg3 arg4 harg4 arg5 harg5 arg6 harg6 arg7 harg7 arg8 harg8 arg9 harg9 y f2 f5 f6 f7 f8

/-- The rectangle of a whole 256 × 128 buffer. -/
abbrev whole128 : Rect S256x128 := Rect.unit (s := S256x128) ![0, 0] S256x128.size inb_S256x128_S256x128_0_0

/-- The run returns the entries at the label with the block taken in. -/
theorem full_label :
    (run c i arg2 harg2 arg3 harg3 arg4 harg4 arg5 harg5 arg6 harg6 arg7 harg7 arg8 harg8 arg9 harg9 y f2 f5 f6 f7 f8).2.2.2.1
      = fullLabel (arg2.view.read (Elt F) f2) y (i 1).val (arg8.view.read (Elt F) f8) := by
  refine (show _ = labelSum (chunk (arg2.view.read (Elt F) f2)) (labelIn y (i 1).val)
    (arg8.view.readAt (Elt F) whole128.toLoadRect f8) 80 (Nat.le_refl _) from rfl).trans ?_
  rw [View.readAt_full]; rfl

/-- It leaves the sums with the block taken in. -/
theorem full_sum (f : arg7.view.ty.Contents (Elt F)) :
    arg7.view.read (Elt F) (arg7.view.writes (Elt F) f
      (run c i arg2 harg2 arg3 harg3 arg4 harg4 arg5 harg5 arg6 harg6 arg7 harg7 arg8 harg8 arg9 harg9 y f2 f5 f6 f7 f8).2.2.1)
      = fullSum (arg2.view.read (Elt F) f2) (arg7.view.read (Elt F) f7) := by
  rw [show (run c i arg2 harg2 arg3 harg3 arg4 harg4 arg5 harg5 arg6 harg6 arg7 harg7 arg8 harg8 arg9 harg9 y f2 f5 f6 f7 f8).2.2.1 = ([⟨whole128, shapeCast S256x128 (plainSum (chunk (arg2.view.read (Elt F) f2))
    (arg7.view.readAt (Elt F) whole128.toLoadRect f7) 80 (Nat.le_refl _)) shapeCasts_S256x128_S256x128⟩] : List (View.Piece (Elt F) S256x128 .f32)) from rfl,
    View.read_writes_full, View.readAt_full, shapeCast_self]; rfl

/-- It leaves the maxima with the block taken in. -/
theorem full_max (f : arg5.view.ty.Contents (Elt F)) :
    arg5.view.read (Elt F) (arg5.view.writes (Elt F) f
      (run c i arg2 harg2 arg3 harg3 arg4 harg4 arg5 harg5 arg6 harg6 arg7 harg7 arg8 harg8 arg9 harg9 y f2 f5 f6 f7 f8).1)
      = fullMax (arg2.view.read (Elt F) f2) (arg5.view.read (Elt F) f5) := by
  rw [show (run c i arg2 harg2 arg3 harg3 arg4 harg4 arg5 harg5 arg6 harg6 arg7 harg7 arg8 harg8 arg9 harg9 y f2 f5 f6 f7 f8).1 = ([⟨whole128, shapeCast S256x128 (maximumf (arg5.view.readAt (Elt F) whole128.toLoadRect f5)
    (maxUpTo (chunk (arg2.view.read (Elt F) f2)) 79 (by decide))) shapeCasts_S256x128_S256x128⟩] : List (View.Piece (Elt F) S256x128 .f32)) from rfl,
    View.read_writes_full, View.readAt_full]
  exact shapeCast_self _ _

/-- It leaves the sums of exponentials, rescaled to the new maxima, with the block taken in. -/
theorem full_exp (f : arg6.view.ty.Contents (Elt F)) :
    arg6.view.read (Elt F) (arg6.view.writes (Elt F) f
      (run c i arg2 harg2 arg3 harg3 arg4 harg4 arg5 harg5 arg6 harg6 arg7 harg7 arg8 harg8 arg9 harg9 y f2 f5 f6 f7 f8).2.1)
      = fullExp (arg2.view.read (Elt F) f2) (arg5.view.read (Elt F) f5) (arg6.view.read (Elt F) f6) := by
  let mx : FVec F S256x128 .f32 := maximumf (arg5.view.readAt (Elt F) whole128.toLoadRect f5) (maxUpTo (chunk (arg2.view.read (Elt F) f2)) 79 (by decide))
  let old : List (View.Piece (Elt F) S256x128 .f32) := [⟨whole128, shapeCast S256x128
    (mulf (arg6.view.readAt (Elt F) whole128.toLoadRect f6) (exp (subf (arg5.view.readAt (Elt F) whole128.toLoadRect f5) mx))) shapeCasts_S256x128_S256x128⟩]
  rw [show (run c i arg2 harg2 arg3 harg3 arg4 harg4 arg5 harg5 arg6 harg6 arg7 harg7 arg8 harg8 arg9 harg9 y f2 f5 f6 f7 f8).2.1 = ⟨whole128, shapeCast S256x128 (expSum (chunk (arg2.view.read (Elt F) f2)) mx
    (arg6.view.readCov old whole128.toLoadRect) 80 (Nat.le_refl _)) shapeCasts_S256x128_S256x128⟩ :: old from rfl,
    View.read_writes_full, shapeCast_self, View.readCov_full]
  simp only [mx, View.readAt_full]
  exact congrArg (fun v => expSum _ _ v 80 (Nat.le_refl _)) (shapeCast_self _ _)

end Cert.KernelIdeal.Body

end
-- ==== Proof.Bodies.lean ====
/-
  The body of one grid point of the kernel when the point is not the last of its row block: on the first column block
  it fills the running state with its start values and then takes the block in, on the others it takes the block in.
-/
module

public import proofs.«01_k».proof.Proof.FullBlock

@[expose] public section

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The point is the first of its row block. -/
abbrev IsFirst (i : grid0.Coords) : Prop :=
  (Scalar.cmpi .ne (Scalar.extui (Scalar.cmpi .eq (BitVec.ofNat 32 (i 1).val) 0#32)) 0#32) = 1#1

/-- The point is not the last of its row block. -/
abbrev IsInner (i : grid0.Coords) : Prop :=
  (Scalar.cmpi .ne (Scalar.extui (Scalar.cmpi .slt (BitVec.ofNat 32 (i 1).val) 9#32)) 0#32) = 1#1

/-- The point is the last of its row block. -/
abbrev IsLast (i : grid0.Coords) : Prop := k0_cond3 i = 1#1

variable (c : Dev nD) (i : grid0.Coords)
  (arg2 : Memref sig .tc .vmem S256x10240 .f32) (harg2 : arg2.IsWhole) (arg3 : Memref sig .tc .vmem S256x1 .i32) (harg3 : arg3.IsWhole)
  (arg4 : Memref sig .tc .vmem S1x1x1 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S256x128 .f32) (harg8 : arg8.IsWhole) (arg9 : Memref sig .tc .vmem S256x1 .f32) (harg9 : arg9.IsWhole)

/-- Reading the whole label window gives its contents. -/
theorem label_read (y : IVec S256x1 32) :
    k0_pay6 (arg3.view.readAt (Elt F) (Rect.unit (s := S256x1) ![0, 0] S256x1.size inb_S256x1_S256x1_0_0).toLoadRect (harg3.unread y)) = y := by
  show shapeCast S256x1 _ shapeCasts_S256x1_S256x1 = y
  rw [shapeCast_self, View.readAt_full, harg3.read_unread]

set_option maxHeartbeats 1600000 in
/-- On a column block that is neither the first nor the last, the body leaves the running state with the block taken in
    and the output as it was. -/
theorem inner_body (h0 : ¬IsFirst i) (h1 : IsInner i) (h2 : ¬IsLast i) (x : Vec F S256x10240 .f32) (y : IVec S256x1 32)
    (o : Vec F S1x1x1 .f32) (m s r l : Vec F S256x128 .f32) (z : Vec F S256x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare m ∗ owns (c : Thread nD τ) arg6 fullShare s ∗ owns (c : Thread nD τ) arg7 fullShare r ∗ owns (c : Thread nD τ) arg8 fullShare l ∗ owns (c : Thread nD τ) arg9 fullShare z
        ∗ ((owns (c : Thread nD τ) arg2 fullShare x ∗ owns (c : Thread nD τ) arg3 fullShare y ∗ owns (c : Thread nD τ) arg4 fullShare o ∗ owns (c : Thread nD τ) arg5 fullShare (fullMax x m) ∗ owns (c : Thread nD τ) arg6 fullShare (fullExp x m s) ∗ owns (c : Thread nD τ) arg7 fullShare (fullSum x r) ∗ owns (c : Thread nD τ) arg8 fullShare (fullLabel x y (i 1).val l) ∗ owns (c : Thread nD τ) arg9 fullShare z) -∗ K ⟨⟩))
      ⊢ (wp frame (wpE (defs₀ (F := F)) Variants.none c none) E (cc0__loss_kernel i arg2 harg2 arg3 harg3 arg4 harg4 arg5 harg5 arg6 harg6 arg7 harg7 arg8 harg8 arg9 harg9) K : sProp 𝕄) := by
    simp only [cc0__loss_kernel_eq_skeleton]; unfold cc0__loss_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3
    have hcut : ∀ (y : IVec S256x1 32) (f2 : arg2.view.ty.Contents (Elt F)) (f5 : arg5.view.ty.Contents (Elt F))
        (f6 : arg6.view.ty.Contents (Elt F)) (f7 : arg7.view.ty.Contents (Elt F)) (f8 : arg8.view.ty.Contents (Elt F)),
        iprop((arg2.view.loc (c : Thread nD τ) ↦[arg2.view.set]{fullShare} f2) ∗ (arg5.view.loc (c : Thread nD τ) ↦[arg5.view.set]{fullShare} f5)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8))
        ⊢ (wp frame (wpE (defs₀ (F := F)) Variants.none c none) E
            (k0_part28 i arg2 harg2 arg3 harg3 arg4 harg4 arg5 harg5 arg6 harg6 arg7 harg7 arg8 harg8 arg9 harg9 (BitVec.ofNat 32 (i 1).val) y (iota .tc S256x128 32 [1] iota_S256x128_d1_w32)) _ : sProp 𝕄) :=
      fun y f2 f5 f6 f7 f8 => (fullRun c i arg2 harg2 arg3 harg3 arg4 harg4 arg5 harg5 arg6 harg6 arg7 harg7 arg8 harg8 arg9 harg9 y f2 f5 f6 f7 f8).2.2.2.2 E
    sl_exec_parts (disch := first | sl_exact h0 | sl_exact h1 | sl_exact h2)
    sl_step
    iapply Hk
    isplitl [Hk0_part28_1]
    · iexists _; isplitr; · ipureintro; exact hf2
      iexact Hk0_part28_1
    isplitl [H3]
    · iexists _; isplitr; · ipureintro; exact hf3
      iexact H3
    isplitl [H4]
    · iexists _; isplitr; · ipureintro; exact hf4
      iexact H4
    isplitl [Hk0_part28_2]
    · iexists _; isplitr; rotate_left
      · iexact Hk0_part28_2
      · ipureintro; rw [full_max, hf2, hf5]
    isplitl [Hk0_part28_3]
    · iexists _; isplitr; rotate_left
      · iexact Hk0_part28_3
      · ipureintro; rw [full_exp, hf2, hf5, hf6]
    isplitl [Hk0_part28_4]
    · iexists _; isplitr; rotate_left
      · iexact Hk0_part28_4
      · ipureintro; rw [full_sum, hf2, hf7]
    isplitl [Hk0_part28_5]
    · iexists _; isplitr; rotate_left
      · iexact Hk0_part28_5
      · ipureintro; rw [View.read_writes_full, hk0_part28_0]; refine (shapeCast_self _ _).trans ?_; rw [full_label, label_read, hf2, hf8]
    iexists _; isplitr; rotate_left
    · iexact H9
    · ipureintro; exact hf9

set_option maxHeartbeats 1600000 in
/-- On the first column block the body leaves the running state the block gives from the start values, whatever the
    scratch held before, and the output as it was. -/
theorem first_body (h0 : IsFirst i) (h1 : IsInner i) (h2 : ¬IsLast i) (x : Vec F S256x10240 .f32) (y : IVec S256x1 32)
    (o : Vec F S1x1x1 .f32) (m s r l : Vec F S256x128 .f32) (z : Vec F S256x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare m ∗ owns (c : Thread nD τ) arg6 fullShare s ∗ owns (c : Thread nD τ) arg7 fullShare r ∗ owns (c : Thread nD τ) arg8 fullShare l ∗ owns (c : Thread nD τ) arg9 fullShare z
        ∗ ((owns (c : Thread nD τ) arg2 fullShare x ∗ owns (c : Thread nD τ) arg3 fullShare y ∗ owns (c : Thread nD τ) arg4 fullShare o ∗ owns (c : Thread nD τ) arg5 fullShare (fullMax x negInfs) ∗ owns (c : Thread nD τ) arg6 fullShare (fullExp x negInfs zeros) ∗ owns (c : Thread nD τ) arg7 fullShare (fullSum x zeros) ∗ owns (c : Thread nD τ) arg8 fullShare (fullLabel x y (i 1).val zeros) ∗ owns (c : Thread nD τ) arg9 fullShare (firstCol x)) -∗ K ⟨⟩))
      ⊢ (wp frame (wpE (defs₀ (F := F)) Variants.none c none) E (cc0__loss_kernel i arg2 harg2 arg3 harg3 arg4 harg4 arg5 harg5 arg6 harg6 arg7 harg7 arg8 harg8 arg9 harg9) K : sProp 𝕄) := by
    simp only [cc0__loss_kernel_eq_skeleton]; unfold cc0__loss_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3
    have hcut : ∀ (y : IVec S256x1 32) (f2 : arg2.view.ty.Contents (Elt F)) (f5 : arg5.view.ty.Contents (Elt F))
        (f6 : arg6.view.ty.Contents (Elt F)) (f7 : arg7.view.ty.Contents (Elt F)) (f8 : arg8.view.ty.Contents (Elt F)),
        iprop((arg2.view.loc (c : Thread nD τ) ↦[arg2.view.set]{fullShare} f2) ∗ (arg5.view.loc (c : Thread nD τ) ↦[arg5.view.set]{fullShare} f5)
          ∗ (arg6.view.loc (c : Thread nD τ) ↦[arg6.view.set]{fullShare} f6) ∗ (arg7.view.loc (c : Thread nD τ) ↦[arg7.view.set]{fullShare} f7)
          ∗ (arg8.view.loc (c : Thread nD τ) ↦[arg8.view.set]{fullShare} f8))
        ⊢ (wp frame (wpE (defs₀ (F := F)) Variants.none c none) E
            (k0_part28 i arg2 harg2 arg3 harg3 arg4 harg4 arg5 harg5 arg6 harg6 arg7 harg7 arg8 harg8 arg9 harg9 (BitVec.ofNat 32 (i 1).val) y (iota .tc S256x128 32 [1] iota_S256x128_d1_w32)) _ : sProp 𝕄) :=
      fun y f2 f5 f6 f7 f8 => (fullRun c i arg2 harg2 arg3 harg3 arg4 harg4 arg5 harg5 arg6 harg6 arg7 harg7 arg8 harg8 arg9 harg9 y f2 f5 f6 f7 f8).2.2.2.2 E
    sl_exec_parts (disch := first | sl_exact h0 | sl_exact h1 | sl_exact h2)
    sl_step
    iapply Hk
    isplitl [Hk0_part28_1]
    · iexists _; isplitr; · ipureintro; exact hf2
      iexact Hk0_part28_1
    isplitl [H3]
    · iexists _; isplitr; · ipureintro; exact hf3
      iexact H3
    isplitl [H4]
    · iexists _; isplitr; · ipureintro; exact hf4
      iexact H4
    isplitl [Hk0_part28_2]
    · iexists _; isplitr; rotate_left
      · iexact Hk0_part28_2
      · ipureintro; rw [full_max, hf2, View.read_writes_full]; exact congrArg (fullMax x) (shapeCast_self _ _)
    isplitl [Hk0_part28_3]
    · iexists _; isplitr; rotate_left
      · iexact Hk0_part28_3
      · ipureintro; rw [full_exp, hf2, View.read_writes_full, View.read_writes_full]; exact congrArg₂ (fullExp x) (shapeCast_self _ _) (shapeCast_self _ _)
    isplitl [Hk0_part28_4]
    · iexists _; isplitr; rotate_left
      · iexact Hk0_part28_4
      · ipureintro; rw [full_sum, hf2, View.read_writes_full]; exact congrArg (fullSum x) (shapeCast_self _ _)
    isplitl [Hk0_part28_5]
    · iexists _; isplitr; rotate_left
      · iexact Hk0_part28_5
      · ipureintro; rw [View.read_writes_full, hk0_part28_0]; refine (shapeCast_self _ _).trans ?_; rw [full_label, label_read, hf2, View.read_writes_full]; exact congrArg (fullLabel x y (i 1).val) (shapeCast_self _ _)
    iexists _; isplitr; rotate_left
    · iexact H9
    · ipureintro; rw [View.read_writes_full]; refine (shapeCast_self _ _).trans ?_; rw [← hf2]; rfl

end Cert.KernelIdeal.Body

end
-- ==== Proof.LastBlock.lean ====
/-
  The body of the kernel at the last point of a row block: it takes in the last column block, whose columns past the
  array's last are masked, and reduces the running state to the row block's loss.
-/
module

public import proofs.«01_k».proof.Proof.Bodies

@[expose] public section

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S256x10240 .f32) (harg2 : arg2.IsWhole) (arg3 : Memref sig .tc .vmem S256x1 .i32) (harg3 : arg3.IsWhole)
  (arg4 : Memref sig .tc .vmem S1x1x1 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .f32) (harg7 : arg7.IsWhole)
  (arg8 : Memref sig .tc .vmem S256x128 .f32) (harg8 : arg8.IsWhole) (arg9 : Memref sig .tc .vmem S256x1 .f32) (harg9 : arg9.IsWhole)

set_option maxHeartbeats 3200000 in
/-- The run of the body at the last point of a row block, with the pieces it leaves in each buffer. -/
noncomputable def lastRun (h0 : ¬IsFirst i) (h1 : ¬IsInner i) (h2 : IsLast i) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) :
    Σ' (L4 : List (View.Piece (Elt F) S1x1x1 .f32)) (L5 L6 L7 : List (View.Piece (Elt F) S256x128 .f32)), { L8 : List (View.Piece (Elt F) S256x128 .f32) //
      ∀ (E : Set ℕ) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
          ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} arg4.view.writes (Elt F) f4 L4) ∗ (arg5.view.loc (c : Thread nD τ) ↦[arg5.view.set]{fullShare} arg5.view.writes (Elt F) f5 L5) ∗ (arg6.view.loc (c : Thread nD τ) ↦[arg6.view.set]{fullShare} arg6.view.writes (Elt F) f6 L6) ∗ (arg7.view.loc (c : Thread nD τ) ↦[arg7.view.set]{fullShare} arg7.view.writes (Elt F) f7 L7) ∗ (arg8.view.loc (c : Thread nD τ) ↦[arg8.view.set]{fullShare} arg8.view.writes (Elt F) f8 L8) ∗ (arg9.view.loc (c : Thread nD τ) ↦[arg9.view.set]{fullShare} f9)) -∗ K ⟨⟩))
        ⊢ (wp frame (wpE (defs₀ (F := F)) Variants.none c none) E (cc0__loss_kernel i arg2 harg2 arg3 harg3 arg4 harg4 arg5 harg5 arg6 harg6 arg7 harg7 arg8 harg8 arg9 harg9) K : sProp 𝕄) } := by
  refine ⟨?_, ?_, ?_, ?_, ?_, fun E K => ?run⟩
  case run =>
    simp only [cc0__loss_kernel_eq_skeleton]; unfold cc0__loss_kernel_skel
    iintro ⟨H2, H3, H4, H5, H6, H7, H8, H9, Hk⟩
    sl_exec_parts (disch := first | sl_exact h0 | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The loss of a row block from its labels and its running state: the sum over its rows. -/
def rowLoss (y : IVec S256x1 32) (m s r l : Vec F S256x128 .f32) (z : Vec F S256x1 .f32) : Vec F S1x1x1 .f32 :=
  k0_pay8 (k0_pay172 y k0_pay170 k0_pay171 (Scalar.ofBits .f32 0x3F666666#32) m s l r z)

variable (f2 : arg2.view.ty.Contents (Elt F)) (f5 : arg5.view.ty.Contents (Elt F)) (f6 : arg6.view.ty.Contents (Elt F))

/-- What the rescaled sum's store leaves in the sum's buffer before the chunks are added. -/
def rescaled : List (View.Piece (Elt F) S256x128 .f32) :=
  ([⟨whole128, shapeCast S256x128 (mulf (arg6.view.readAt (Elt F) whole128.toLoadRect f6) (exp (subf (arg5.view.readAt (Elt F) whole128.toLoadRect f5) (lastMax (arg2.view.read (Elt F) f2) (arg5.view.readAt (Elt F) whole128.toLoadRect f5))))) shapeCasts_S256x128_S256x128⟩] : List (View.Piece (Elt F) S256x128 .f32))

/-- The run of the body at the last point of a row block, with the pieces it leaves named. -/
theorem last_run (h0 : ¬IsFirst i) (h1 : ¬IsInner i) (h2 : IsLast i) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) : ∃ (L4 : List (View.Piece (Elt F) S1x1x1 .f32)) (L5 L6 L7 L8 : List (View.Piece (Elt F) S256x128 .f32)),
    L5 = ([⟨whole128, shapeCast S256x128 (lastMax (arg2.view.read (Elt F) f2) (arg5.view.readAt (Elt F) whole128.toLoadRect f5)) shapeCasts_S256x128_S256x128⟩] : List (View.Piece (Elt F) S256x128 .f32))
    ∧ L6 = ⟨whole128, shapeCast S256x128 (addf (expSum (chunk (arg2.view.read (Elt F) f2)) (lastMax (arg2.view.read (Elt F) f2) (arg5.view.readAt (Elt F) whole128.toLoadRect f5)) (arg6.view.readCov (rescaled arg2 arg5 arg6 f2 f5 f6) whole128.toLoadRect) 61 (by decide)) (exp (subf (tailLow (arg2.view.read (Elt F) f2)) (lastMax (arg2.view.read (Elt F) f2) (arg5.view.readAt (Elt F) whole128.toLoadRect f5))))) shapeCasts_S256x128_S256x128⟩ :: rescaled arg2 arg5 arg6 f2 f5 f6
    ∧ L7 = ([⟨whole128, shapeCast S256x128 (lastSum (arg2.view.read (Elt F) f2) (arg7.view.readAt (Elt F) whole128.toLoadRect f7)) shapeCasts_S256x128_S256x128⟩] : List (View.Piece (Elt F) S256x128 .f32))
    ∧ L8 = ([⟨whole128, shapeCast S256x128 (lastLabel (arg2.view.read (Elt F) f2) (k0_pay6 (arg3.view.readAt (Elt F) (Rect.unit (s := S256x1) ![0, 0] S256x1.size inb_S256x1_S256x1_0_0).toLoadRect f3)) (i 1).val (arg8.view.readAt (Elt F) whole128.toLoadRect f8)) shapeCasts_S256x128_S256x128⟩] : List (View.Piece (Elt F) S256x128 .f32))
    ∧ L4 = ([⟨Rect.unit (s := S1x1x1) ![0, 0, 0] S1x1x1.size inb_S1x1x1_S1x1x1_0_0_0,
        rowLoss (k0_pay6 (arg3.view.readAt (Elt F) (Rect.unit (s := S256x1) ![0, 0] S256x1.size inb_S256x1_S256x1_0_0).toLoadRect f3)) (arg5.view.readCov L5 whole128.toLoadRect) (arg6.view.readCov L6 whole128.toLoadRect)
          (arg7.view.readCov L7 whole128.toLoadRect) (arg8.view.readCov L8 whole128.toLoadRect)
          (arg9.view.readAt (Elt F) (Rect.unit (s := S256x1) ![0, 0] S256x1.size inb_S256x1_S256x1_0_0).toLoadRect f9)⟩] : List (View.Piece (Elt F) S1x1x1 .f32))
    ∧ ∀ (E : Set ℕ) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
          ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} arg4.view.writes (Elt F) f4 L4) ∗ (arg5.view.loc (c : Thread nD τ) ↦[arg5.view.set]{fullShare} arg5.view.writes (Elt F) f5 L5) ∗ (arg6.view.loc (c : Thread nD τ) ↦[arg6.view.set]{fullShare} arg6.view.writes (Elt F) f6 L6) ∗ (arg7.view.loc (c : Thread nD τ) ↦[arg7.view.set]{fullShare} arg7.view.writes (Elt F) f7 L7) ∗ (arg8.view.loc (c : Thread nD τ) ↦[arg8.view.set]{fullShare} arg8.view.writes (Elt F) f8 L8) ∗ (arg9.view.loc (c : Thread nD τ) ↦[arg9.view.set]{fullShare} f9)) -∗ K ⟨⟩))
        ⊢ (wp frame (wpE (defs₀ (F := F)) Variants.none c none) E (cc0__loss_kernel i arg2 harg2 arg3 harg3 arg4 harg4 arg5 harg5 arg6 harg6 arg7 harg7 arg8 harg8 arg9 harg9) K : sProp 𝕄) :=
  ⟨(lastRun c i arg2 harg2 arg3 harg3 arg4 harg4 arg5 harg5 arg6 harg6 arg7 harg7 arg8 harg8 arg9 harg9 h0 h1 h2 f2 f3 f4 f5 f6 f7 f8 f9).1, (lastRun c i arg2 harg2 arg3 harg3 arg4 harg4 arg5 harg5 arg6 harg6 arg7 harg7 arg8 harg8 arg9 harg9 h0 h1 h2 f2 f3 f4 f5 f6 f7 f8 f9).2.1, (lastRun c i arg2 harg2 arg3 harg3 arg4 harg4 arg5 harg5 arg6 harg6 arg7 harg7 arg8 harg8 arg9 harg9 h0 h1 h2 f2 f3 f4 f5 f6 f7 f8 f9).2.2.1, (lastRun c i arg2 harg2 arg3 harg3 arg4 harg4 arg5 harg5 arg6 harg6 arg7 harg7 arg8 harg8 arg9 harg9 h0 h1 h2 f2 f3 f4 f5 f6 f7 f8 f9).2.2.2.1, (lastRun c i arg2 harg2 arg3 harg3 arg4 harg4 arg5 harg5 arg6 harg6 arg7 harg7 arg8 harg8 arg9 harg9 h0 h1 h2 f2 f3 f4 f5 f6 f7 f8 f9).2.2.2.2.1, rfl, rfl, rfl, rfl, rfl, (lastRun c i arg2 harg2 arg3 harg3 arg4 harg4 arg5 harg5 arg6 harg6 arg7 harg7 arg8 harg8 arg9 harg9 h0 h1 h2 f2 f3 f4 f5 f6 f7 f8 f9).2.2.2.2.2⟩

/-- At the last point of a row block the body leaves the running state with the last block taken in, and the row
    block's loss in the output, whatever the output held before. -/
theorem last_body (h0 : ¬IsFirst i) (h1 : ¬IsInner i) (h2 : IsLast i) (x : Vec F S256x10240 .f32) (y : IVec S256x1 32)
    (o : Vec F S1x1x1 .f32) (m s r l : Vec F S256x128 .f32) (z : Vec F S256x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare m ∗ owns (c : Thread nD τ) arg6 fullShare s ∗ owns (c : Thread nD τ) arg7 fullShare r ∗ owns (c : Thread nD τ) arg8 fullShare l ∗ owns (c : Thread nD τ) arg9 fullShare z
        ∗ ((owns (c : Thread nD τ) arg2 fullShare x ∗ owns (c : Thread nD τ) arg3 fullShare y ∗ owns (c : Thread nD τ) arg4 fullShare (rowLoss y (lastMax x m) (lastExp x m s) (lastSum x r) (lastLabel x y (i 1).val l) z) ∗ owns (c : Thread nD τ) arg5 fullShare (lastMax x m) ∗ owns (c : Thread nD τ) arg6 fullShare (lastExp x m s) ∗ owns (c : Thread nD τ) arg7 fullShare (lastSum x r) ∗ owns (c : Thread nD τ) arg8 fullShare (lastLabel x y (i 1).val l) ∗ owns (c : Thread nD τ) arg9 fullShare z) -∗ K ⟨⟩))
      ⊢ (wp frame (wpE (defs₀ (F := F)) Variants.none c none) E (cc0__loss_kernel i arg2 harg2 arg3 harg3 arg4 harg4 arg5 harg5 arg6 harg6 arg7 harg7 arg8 harg8 arg9 harg9) K : sProp 𝕄) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3
  have r5 : arg5.view.readAt (Elt F) whole128.toLoadRect f5 = m := by rw [View.readAt_full, hf5]
  have r6 : arg6.view.readAt (Elt F) whole128.toLoadRect f6 = s := by rw [View.readAt_full, hf6]
  have r7 : arg7.view.readAt (Elt F) whole128.toLoadRect f7 = r := by rw [View.readAt_full, hf7]
  have r8 : arg8.view.readAt (Elt F) whole128.toLoadRect f8 = l := by rw [View.readAt_full, hf8]
  have r9 : arg9.view.readAt (Elt F) (Rect.unit (s := S256x1) ![0, 0] S256x1.size inb_S256x1_S256x1_0_0).toLoadRect f9 = z := by
    rw [View.readAt_full, hf9]
  obtain ⟨L4, L5, L6, L7, L8, m5, m6, m7, m8, m4, run⟩ := last_run c i arg2 harg2 arg3 harg3 arg4 harg4 arg5 harg5 arg6 harg6 arg7 harg7 arg8 harg8 arg9 harg9 h0 h1 h2 f2 (harg3.unread y) f4 f5 f6 f7 f8 f9
  have e6 : arg6.view.readCov (rescaled arg2 arg5 arg6 f2 f5 f6) whole128.toLoadRect = mulf s (exp (subf m (lastMax x m))) := by
    refine (View.readCov_full ..).trans ((shapeCast_self _ _).trans ?_)
    rw [r5, r6, hf2]
  rw [hf2, r5] at m5 m6
  rw [e6] at m6
  rw [hf2, r7] at m7
  rw [hf2, label_read, r8] at m8
  have c5 : arg5.view.readCov L5 whole128.toLoadRect = lastMax x m := by
    rw [m5]; exact (View.readCov_full ..).trans (shapeCast_self _ _)
  have c6 : arg6.view.readCov L6 whole128.toLoadRect = lastExp x m s := by
    rw [m6]; exact (View.readCov_full ..).trans (shapeCast_self _ _)
  have c7 : arg7.view.readCov L7 whole128.toLoadRect = lastSum x r := by
    rw [m7]; exact (View.readCov_full ..).trans (shapeCast_self _ _)
  have c8 : arg8.view.readCov L8 whole128.toLoadRect = lastLabel x y (i 1).val l := by
    rw [m8]; exact (View.readCov_full ..).trans (shapeCast_self _ _)
  rw [label_read, r9, c5, c6, c7, c8] at m4
  have run := run E K
  iapply run
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]
  · iexists _; isplitr; rotate_left
    · iexact H2
    · ipureintro; exact hf2
  isplitl [H3]
  · iexists _; isplitr; rotate_left
    · iexact H3
    · ipureintro; exact hf3
  isplitl [H4]
  · iexists _; isplitr; rotate_left
    · iexact H4
    · ipureintro; rw [m4]; exact View.read_writes_full ..
  isplitl [H5]
  · iexists _; isplitr; rotate_left
    · iexact H5
    · ipureintro; rw [m5]; exact (View.read_writes_full ..).trans (shapeCast_self _ _)
  isplitl [H6]
  · iexists _; isplitr; rotate_left
    · iexact H6
    · ipureintro; rw [m6]; exact (View.read_writes_full ..).trans (shapeCast_self _ _)
  isplitl [H7]
  · iexists _; isplitr; rotate_left
    · iexact H7
    · ipureintro; rw [m7]; exact (View.read_writes_full ..).trans (shapeCast_self _ _)
  isplitl [H8]
  · iexists _; isplitr; rotate_left
    · iexact H8
    · ipureintro; rw [m8]; exact (View.read_writes_full ..).trans (shapeCast_self _ _)
  iexists _; isplitr; rotate_left
  · iexact H9
  · ipureintro; exact hf9

end Cert.KernelIdeal.Body

end
-- ==== Proof.Data.lean ====
/-
  The kernel's proof data: the running state after every grid point, the output block, and that the body takes the one
  to the next. The windows of the last column block hang over the array's edge; what the copy leaves in their columns
  past the edge is not known, and the state does not depend on it.
-/
module

public import proofs.«01_k».proof.Proof.Columns
public import proofs.«01_k».proof.Proof.LastBlock
public import proofs.«01_k».proof.Proof.Gen.KernelIdeal.Frame
public import Idealize.ShloMosaic.Lib.Claim

@[expose] public section

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## Where a point is in its row block -/

/-- The column block of point `t`. -/
theorem col_val (t : Fin cfg0.N) : (grid0.coords t 1).val = t.val % 10 := by
  have e : (grid0.coords t 1).val = t.val / 1 % 10 := Pipeline.Grid.coords_val t 1 (by decide) rfl
  rw [e, Nat.div_one]

/-- The row block of point `t`. -/
theorem row_val (t : Fin cfg0.N) : (grid0.coords t 0).val = t.val / 10 := by
  have ht : t.val < 80 := Nat.lt_of_lt_of_eq t.isLt N_0
  have e : (grid0.coords t 0).val = t.val / 10 % 8 := Pipeline.Grid.coords_val t 0 (by decide) rfl
  rw [e]; omega

/-- The points at which a row block begins. -/
theorem isFirst_iff (t : Fin cfg0.N) : IsFirst (grid0.coords t) ↔ t.val % 10 = 0 := by
  simp only [IsFirst, col_val]
  have : t.val % 10 < 10 := Nat.mod_lt _ (by decide)
  word_cmp

/-- The points before the last of a row block. -/
theorem isInner_iff (t : Fin cfg0.N) : IsInner (grid0.coords t) ↔ t.val % 10 ≤ 8 :=
  (by decide +kernel : ∀ t : Fin grid0.N, IsInner (grid0.coords t) ↔ t.val % 10 ≤ 8) t

/-- The points at which a row block ends. -/
theorem isLast_iff (t : Fin cfg0.N) : IsLast (grid0.coords t) ↔ t.val % 10 = 9 := by
  simp only [IsLast, k0_cond3, col_val]
  have : t.val % 10 < 10 := Nat.mod_lt _ (by decide)
  word_cmp

/-- Before the last point of a row block the output block is not written. -/
theorem idle_out : ∀ t : Fin cfg0.N, t.val % 10 ≤ 8 → cfg0.idle 2 (grid0.coords t) = true :=
  (by decide +kernel : ∀ t : Fin grid0.N, t.val % 10 ≤ 8 → cfg0.idle 2 (grid0.coords t) = true)

/-- Nor is it copied out. -/
theorem noFlush_out : ∀ t : Fin cfg0.N, t.val % 10 ≤ 8 → (cfg0.win 2).flush t = false :=
  (by decide +kernel : ∀ t : Fin grid0.N, t.val % 10 ≤ 8 → (cfg0.win 2).flush t = false)

/-- At the last point it is written. -/
theorem live_out : ∀ t : Fin cfg0.N, t.val % 10 = 9 → cfg0.idle 2 (grid0.coords t) = false :=
  (by decide +kernel : ∀ t : Fin grid0.N, t.val % 10 = 9 → cfg0.idle 2 (grid0.coords t) = false)

/-- Every point copies in a block of the logits of its own. -/
theorem fetch_in : ∀ t : Fin cfg0.N, (cfg0.win 0).fetch t = true :=
  (by decide +kernel : ∀ t : Fin grid0.N, (cfg0.win 0).fetch t = true)

/-- The rows the copy of a block moves: all of them. -/
theorem xsize_rows : ∀ t : Fin cfg0.N, win0_0.xsize (grid0.coords t) 0 = 256 :=
  (by decide +kernel : ∀ t : Fin grid0.N, win0_0.xsize (grid0.coords t) 0 = 256)

/-- The columns the copy of a block moves: all of them, but for the last block, whose columns in the array are 7840. -/
theorem xsize_cols : ∀ t : Fin cfg0.N, win0_0.xsize (grid0.coords t) 1 = if t.val % 10 = 9 then 7840 else 10240 :=
  (by decide +kernel : ∀ t : Fin grid0.N, win0_0.xsize (grid0.coords t) 1 = if t.val % 10 = 9 then 7840 else 10240)

/-- The entries the copy of a block moves: those of the columns in the array. -/
theorem moved_iff_cols (t : Fin cfg0.N) (j : S256x10240.Idx) :
    win0_0.moved (grid0.coords t) j = true ↔ (j 1).val < if t.val % 10 = 9 then 7840 else 10240 := by
  rw [win0_0.moved_iff]
  constructor
  · intro h; have := h 1; rwa [xsize_cols] at this
  · intro h a
    match a with
    | ⟨0, _⟩ => exact lt_of_lt_of_eq (j 0).isLt (xsize_rows t).symm
    | ⟨1, _⟩ => exact lt_of_lt_of_eq h (xsize_cols t).symm

/-! ## The running state and the output, point by point -/

variable (m : (ℓ : Loc nD τ sig) → Buf (Elt F) ℓ) (ρ : Dev nD → PrngReg)

/-- The block of `x` at point `t`, zero in the columns past the array's edge. -/
def xblk (c : Dev nD) (t : Fin cfg0.N) : Vec F S256x10240 .f32 :=
  win0_0.fill (grid0.coords t) (fun _ => Scalar.ofBits .f32 0#32) (iblk m c 0 t)

/-- The labels of point `t`'s rows. -/
def yblk (c : Dev nD) (t : Fin cfg0.N) : IVec S256x1 32 := iblk m c 1 t

/-- Before the last column block a copied block has no part past the edge. -/
theorem fill_full (c : Dev nD) (t : Fin cfg0.N) (ht : t.val % 10 ≤ 8) (d : Vec F S256x10240 .f32) :
    win0_0.fill (grid0.coords t) d (iblk m c 0 t) = xblk m c t := by
  funext j
  have hm : win0_0.moved (grid0.coords t) j = true := by
    rw [moved_iff_cols, if_neg (by omega)]; exact (j 1).isLt
  unfold xblk Window.fill
  rw [dif_pos hm, dif_pos hm]

/-- The last column block's copy agrees with the block on the columns in the array. -/
theorem fill_last (c : Dev nD) (t : Fin cfg0.N) (ht : t.val % 10 = 9) (d : Vec F S256x10240 .f32) :
    Agree (win0_0.fill (grid0.coords t) d (iblk m c 0 t)) (xblk m c t) := by
  intro j hj
  have hm : win0_0.moved (grid0.coords t) j = true := by
    rw [moved_iff_cols, if_pos ht]; exact hj
  unfold xblk Window.fill
  rw [dif_pos hm, dif_pos hm]

/-- A state nothing reads. -/
def blank : Running F := ⟨zeros, zeros, zeros, zeros, broadcast S256x1 (Scalar.ofBits .f32 0#32)⟩

/-- The running state after grid point `n`. -/
def stateAt (c : Dev nD) : (n : ℕ) → n < cfg0.N → Running F
  | 0, h => Running.next 0 (xblk m c ⟨0, h⟩) (yblk m c ⟨0, h⟩) blank
  | n + 1, h => Running.next ((n + 1) % 10) (xblk m c ⟨n + 1, h⟩) (yblk m c ⟨n + 1, h⟩) (stateAt c n (Nat.lt_of_succ_lt h))

/-- The state before point `n` (anything before the first). -/
def stateBefore (c : Dev nD) : (n : ℕ) → n < cfg0.N → Running F
  | 0, _ => blank
  | n + 1, h => stateAt m c n (Nat.lt_of_succ_lt h)

/-- The running state after a point is the state before it with the point's block taken in. -/
theorem stateAt_eq (c : Dev nD) (t : Fin cfg0.N) :
    stateAt m c t.val t.isLt = Running.next (t.val % 10) (xblk m c t) (yblk m c t) (stateBefore m c t.val t.isLt) := by
  obtain ⟨n, h⟩ := t
  cases n with
  | zero => rfl
  | succ n => rfl

/-- The output block a state gives. -/
def outOf (c : Dev nD) (t : Fin cfg0.N) : Vec F S1x1x1 .f32 :=
  let s := stateAt m c t.val t.isLt
  rowLoss (yblk m c t) s.top s.exps s.total s.label s.first

/-! ## The pipeline's proof data -/

/-- The lanes' maxima. -/
abbrev scr0 : Memref sig .tc .vmem S256x128 .f32 := Memref.whole cc0_scratch0
/-- The lanes' sums of exponentials. -/
abbrev scr1 : Memref sig .tc .vmem S256x128 .f32 := Memref.whole cc0_scratch1
/-- The lanes' sums. -/
abbrev scr2 : Memref sig .tc .vmem S256x128 .f32 := Memref.whole cc0_scratch2
/-- The lanes' entries at the label. -/
abbrev scr3 : Memref sig .tc .vmem S256x128 .f32 := Memref.whole cc0_scratch3
/-- The rows' entries of column 0. -/
abbrev scr4 : Memref sig .tc .vmem S256x1 .f32 := Memref.whole cc0_scratch4

/-- The five scratch buffers hold a state. -/
def holds (c : Dev nD) (s : Running F) : sProp 𝕄 :=
  iprop(owns (c : Thread nD τ) scr0 fullShare s.top ∗ owns (c : Thread nD τ) scr1 fullShare s.exps ∗ owns (c : Thread nD τ) scr2 fullShare s.total
    ∗ owns (c : Thread nD τ) scr3 fullShare s.label ∗ owns (c : Thread nD τ) scr4 fullShare s.first)

/-- What the launch hands the region: the scratch buffers at anything, the generator register at some state. -/
theorem start_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)
          ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The invariant before position `n`: at the start what the launch hands over, later the scratch buffers at the state. -/
def inv (c : Dev nD) : (n : ℕ) → n ≤ cfg0.N → sProp 𝕄
  | 0, _ => Pipeline.ΦA spec0 c
  | n + 1, hn => iprop(holds c (stateAt m c n hn) ∗ (∃ r, prngReg c r))

/-- The invariant before a point that is not the grid's first. -/
theorem inv_pos (c : Dev nD) (n : ℕ) (h : n < cfg0.N) (hz : n ≠ 0) :
    inv m c n (Nat.le_of_lt h) = iprop(holds c (stateBefore m c n h) ∗ (∃ r, prngReg c r)) := by
  cases n with
  | zero => exact absurd rfl hz
  | succ n => rfl

/-- Any state's scratch is scratch at anything. -/
theorem forget (c : Dev nD) (s : Running F) : iprop(holds c s ∗ (∃ r, prngReg c r)) ⊢ (Pipeline.ΦA spec0 c : sProp 𝕄) := by
  rw [start_eq]; unfold holds
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- Before any point the scratch buffers hold something. -/
theorem inv_start (c : Dev nD) (n : ℕ) (h : n ≤ cfg0.N) : inv m c n h ⊢ (Pipeline.ΦA spec0 c : sProp 𝕄) := by
  cases n with
  | zero => exact Idealize.SL.BI.Entails.refl _
  | succ n => exact forget c _

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => outOf m c t
  Φ t := inv m c t.val (Nat.le_of_lt_succ t.isLt)
  q _ := fullShare
  owed _ := 0

/-- The arrays start with what the host code before the region left in them. -/
theorem A_eq (c : Dev nD) (w : Fin cfg0.W) : (dats m 0 c).A w = V m c (Pipeline.arrRef spec0 w) := by
  dsimp only [dats]

/-- The logits' staging buffer after a point. -/
theorem after_0 (c : Dev nD) (t : Fin cfg0.N) : (dats m 0 c).after 0 t = xblk m c t := by dsimp only [dats]
/-- The labels' staging buffer after a point. -/
theorem after_1 (c : Dev nD) (t : Fin cfg0.N) : (dats m 0 c).after 1 t = iblk m c 1 t := by dsimp only [dats]
/-- The output's staging buffer after a point that writes it. -/
theorem after_2 (c : Dev nD) (t : Fin cfg0.N) : (dats m 0 c).after 2 t = outOf m c t := by dsimp only [dats]

/-- The invariant before a point. -/
theorem inv_castSucc (c : Dev nD) (t : Fin cfg0.N) : (dats m 0 c).Φ t.castSucc = inv m c t.val (Nat.le_of_lt t.isLt) := by
  dsimp only [dats]; exact Pipeline.Dat.Φ_castSucc (inv m c) t

/-- The logits' staging buffer before a point: the copied block over what the buffer held. -/
theorem before_0 (c : Dev nD) (t : Fin cfg0.N) (d) :
    (dats m 0 c).before 0 t d = win0_0.fill (grid0.coords t) d (iblk m c 0 t) := by
  unfold Dat.before
  rw [if_pos (fetch_in t)]
  rfl

/-- The labels' staging buffer before a point. -/
theorem before_1 (c : Dev nD) (t : Fin cfg0.N) (d) : (dats m 0 c).before 1 t d = yblk m c t :=
  before0_1_of m (dats m 0 c) (A_eq m c 1) (after_1 m c) t d

/-- The part of the block in the array is what was copied. -/
theorem cut_xblk (c : Dev nD) (t : Fin cfg0.N) : win0_0.cut (grid0.coords t) (xblk m c t) = iblk m c 0 t := win0_0.cut_fill _ _ _

/-! ## The body at a grid point -/

/-- The staging buffer of the logits at point `t`. -/
abbrev st0 (t : Fin cfg0.N) : Memref sig .tc .vmem S256x10240 .f32 := win0_0.stage (cfg0.slots t 0)
/-- The staging buffer of the labels at point `t`. -/
abbrev st1 (t : Fin cfg0.N) : Memref sig .tc .vmem S256x1 .i32 := win0_1.stage (cfg0.slots t 1)
/-- The staging buffer of the output at point `t`. -/
abbrev st2 (t : Fin cfg0.N) : Memref sig .tc .vmem S1x1x1 .f32 := win0_2.stage (cfg0.slots t 2)

/-- The body's triple at a point with the scratch at `s` before and at `s'` after, the output block `o` before and `o'`
    after; the input windows hold `x` and `y`. -/
abbrev Step (c : Dev nD) (t : Fin cfg0.N) (x : Vec F S256x10240 .f32) (y : IVec S256x1 32) (o o' : Vec F S1x1x1 .f32) (s s' : Running F) : Prop :=
  iprop(holds c s ∗ owns (c : Thread nD τ) (st0 t) fullShare x ∗ owns (c : Thread nD τ) (st1 t) fullShare y ∗ owns (c : Thread nD τ) (st2 t) fullShare o)
    ⊢ (wp frame (wpE (defs₀ (F := F)) Variants.none c none) Set.univ (bodyAt0 t)
        (fun _ => iprop(holds c s' ∗ owns (c : Thread nD τ) (st0 t) fullShare x ∗ owns (c : Thread nD τ) (st1 t) fullShare y ∗ owns (c : Thread nD τ) (st2 t) fullShare o')) : sProp 𝕄)

/-- A point that is not the last of its row block takes the state on and leaves the output. -/
theorem step_full (c : Dev nD) (t : Fin cfg0.N) (ht : t.val % 10 ≤ 8) (x : Vec F S256x10240 .f32) (y : IVec S256x1 32) (o : Vec F S1x1x1 .f32)
    (s : Running F) : Step c t x y o o s (Running.next (t.val % 10) x y s) := by
  unfold Step holds bodyAt0
  iintro ⟨⟨HS0, HS1, HS2, HS3, HS4⟩, H0, H1, H2⟩
  by_cases h0 : t.val % 10 = 0
  · iapply (first_body c (grid0.coords t) (st0 t) (hstage0_0 ((cfg0.slots t 0).cast nbuf0_0)) (st1 t) (hstage0_1 ((cfg0.slots t 1).cast nbuf0_1)) (st2 t) (hstage0_2 ((cfg0.slots t 2).cast nbuf0_2)) scr0 (Memref.isWhole_whole _) scr1 (Memref.isWhole_whole _) scr2 (Memref.isWhole_whole _) scr3 (Memref.isWhole_whole _) scr4 (Memref.isWhole_whole _) ((isFirst_iff t).mpr h0) ((isInner_iff t).mpr ht) (fun h => by have := (isLast_iff t).mp h; omega) x y o _ _ _ _ _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    rw [h0, Running.next, if_pos rfl, col_val, h0]
    iintro ⟨H0, H1, H2, HS⟩
    isplitl [HS]; · iexact HS
    isplitl [H0]; · iexact H0
    isplitl [H1]; · iexact H1
    iexact H2
  · iapply (inner_body c (grid0.coords t) (st0 t) (hstage0_0 ((cfg0.slots t 0).cast nbuf0_0)) (st1 t) (hstage0_1 ((cfg0.slots t 1).cast nbuf0_1)) (st2 t) (hstage0_2 ((cfg0.slots t 2).cast nbuf0_2)) scr0 (Memref.isWhole_whole _) scr1 (Memref.isWhole_whole _) scr2 (Memref.isWhole_whole _) scr3 (Memref.isWhole_whole _) scr4 (Memref.isWhole_whole _) (fun h => h0 ((isFirst_iff t).mp h)) ((isInner_iff t).mpr ht) (fun h => by have := (isLast_iff t).mp h; omega) x y o _ _ _ _ _ Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    rw [Running.next, if_neg h0, if_neg (by omega), col_val]
    iintro ⟨H0, H1, H2, HS⟩
    isplitl [HS]; · iexact HS
    isplitl [H0]; · iexact H0
    isplitl [H1]; · iexact H1
    iexact H2

/-- The last point of a row block takes the state on and leaves the rows' loss in the output. -/
theorem step_last (c : Dev nD) (t : Fin cfg0.N) (ht : t.val % 10 = 9) (x : Vec F S256x10240 .f32) (y : IVec S256x1 32) (o : Vec F S1x1x1 .f32)
    (s s' : Running F) (e : s' = Running.next 9 x y s) : Step c t x y o (rowLoss y s'.top s'.exps s'.total s'.label s'.first) s s' := by
  subst e
  unfold Step holds bodyAt0
  iintro ⟨⟨HS0, HS1, HS2, HS3, HS4⟩, H0, H1, H2⟩
  iapply (last_body c (grid0.coords t) (st0 t) (hstage0_0 ((cfg0.slots t 0).cast nbuf0_0)) (st1 t) (hstage0_1 ((cfg0.slots t 1).cast nbuf0_1)) (st2 t) (hstage0_2 ((cfg0.slots t 2).cast nbuf0_2)) scr0 (Memref.isWhole_whole _) scr1 (Memref.isWhole_whole _) scr2 (Memref.isWhole_whole _) scr3 (Memref.isWhole_whole _) scr4 (Memref.isWhole_whole _) (fun h => by have := (isFirst_iff t).mp h; omega) (fun h => by have := (isInner_iff t).mp h; omega) ((isLast_iff t).mpr ht) x y o _ _ _ _ _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  rw [Running.next, if_neg (by decide), if_pos rfl, col_val, ht]
  iintro ⟨H0, H1, H2, HS⟩
  isplitl [HS]; · iexact HS
  isplitl [H0]; · iexact H0
  isplitl [H1]; · iexact H1
  iexact H2

/-- The first column block does not read the state before it. -/
theorem next_first (x : Vec F S256x10240 .f32) (y : IVec S256x1 32) (s s' : Running F) : Running.next 0 x y s = Running.next 0 x y s' := rfl

/-- The scratch before a point, with the generator register: at some state from which the point's block leads to the state
    after the point. -/
theorem inv_open (c : Dev nD) (t : Fin cfg0.N) :
    inv m c t.val (Nat.le_of_lt t.isLt)
      ⊢ iprop(∃ s : Running F, iprop(⌜Running.next (t.val % 10) (xblk m c t) (yblk m c t) s = stateAt m c t.val t.isLt⌝ ∗ holds c s ∗ (∃ r, prngReg c r))) := by
  by_cases hz : t.val = 0
  · refine (inv_start m c _ _).trans ?_
    rw [start_eq]
    iintro ⟨⟨⟨%d0, HS0⟩, ⟨%d1, HS1⟩, ⟨%d2, HS2⟩, ⟨%d3, HS3⟩, ⟨%d4, HS4⟩⟩, Hg⟩
    iexists (⟨d0, d1, d2, d3, d4⟩ : Running F)
    isplitr
    · ipureintro
      rw [stateAt_eq]
      generalize stateBefore m c t.val t.isLt = s
      rw [hz]
      exact next_first ..
    unfold holds
    isplitl [HS0 HS1 HS2 HS3 HS4]
    · isplitl [HS0]; · iexact HS0
      isplitl [HS1]; · iexact HS1
      isplitl [HS2]; · iexact HS2
      isplitl [HS3]; · iexact HS3
      iexact HS4
    iexact Hg
  · rw [inv_pos m c t.val t.isLt hz]
    iintro H
    iexists (stateBefore m c t.val t.isLt)
    isplitr
    · ipureintro; exact (stateAt_eq m c t).symm
    iexact H

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ := fun t => by
  rw [bigSep_W0, bigSep_W0, defs₀_row]
  simp only [before_0, before_1]
  rw [show (dats m 0 c).owesAt () t.succ = (dats m 0 c).owesAt () t.castSucc from rfl, inv_castSucc,
    show (dats m 0 c).Φ t.succ = iprop(holds c (stateAt m c t.val t.isLt) ∗ (∃ r, prngReg c r)) from rfl]
  have hN : t.val % 10 < 10 := Nat.mod_lt _ (by decide)
  by_cases ht : t.val % 10 ≤ 8
  · rw [show idle0 2 (grid0.coords t) = true from idle_out t ht, show (win0 2).flush t = false from noFlush_out t ht]
    iintro ⟨HΦ, Ho, ⟨%d0, H0⟩, ⟨%d1, H1⟩, ⟨%d2, H2⟩⟩
    ihave HΦ := (inv_open m c t) $$ HΦ
    icases HΦ with ⟨%s, %hs, HS, Hg⟩
    have hx : Running.next (t.val % 10) (win0_0.fill (grid0.coords t) d0 (iblk m c 0 t)) (yblk m c t) s = stateAt m c t.val t.isLt := by
      rw [fill_full m c t ht]; exact hs
    rw [← hx]
    iapply (wp_wand_r frame (wpE (defs₀ (F := F)) Variants.none c none) Set.univ)
    isplitl [HS H0 H1 H2]
    · iapply (step_full c t ht (win0_0.fill (grid0.coords t) d0 (iblk m c 0 t)) (yblk m c t) ((dats m 0 c).before 2 t d2) s)
      isplitl [HS]; · iexact HS
      isplitl [H0]; · iexact H0
      isplitl [H1]; · iexact H1
      iexact H2
    iintro %_ ⟨HS, H0, H1, H2⟩
    isplitl [HS Hg]
    · isplitl [HS]; · iexact HS
      iexact Hg
    isplitl [Ho]; · iexact Ho
    isplitl [H0]
    · iexists d0
      change _ ⊢ owns (c : Thread nD τ) (st0 t) fullShare (win0_0.fill (grid0.coords t) d0 (win0_0.cut (grid0.coords t) (xblk m c t)))
      rw [cut_xblk]
    isplitl [H1]; · iexact H1
    iexists d2; iexact H2
  · have ht9 : t.val % 10 = 9 := by omega
    rw [show idle0 2 (grid0.coords t) = false from live_out t ht9]
    iintro ⟨HΦ, Ho, ⟨%d0, H0⟩, ⟨%d1, H1⟩, ⟨%d2, H2⟩⟩
    ihave HΦ := (inv_open m c t) $$ HΦ
    icases HΦ with ⟨%s, %hs, HS, Hg⟩
    have hx : stateAt m c t.val t.isLt = Running.next 9 (win0_0.fill (grid0.coords t) d0 (iblk m c 0 t)) (yblk m c t) s := by
      rw [(fill_last m c t ht9 d0).next, ← ht9]; exact hs.symm
    iapply (wp_wand_r frame (wpE (defs₀ (F := F)) Variants.none c none) Set.univ)
    isplitl [HS H0 H1 H2]
    · iapply (step_last c t ht9 _ _ ((dats m 0 c).before 2 t d2) s _ hx)
      isplitl [HS]; · iexact HS
      isplitl [H0]; · iexact H0
      isplitl [H1]; · iexact H1
      iexact H2
    iintro %_ ⟨HS, H0, H1, H2⟩
    isplitl [HS Hg]
    · isplitl [HS]; · iexact HS
      iexact Hg
    isplitl [Ho]; · iexact Ho
    isplitl [H0]
    · iexists d0
      change _ ⊢ owns (c : Thread nD τ) (st0 t) fullShare (win0_0.fill (grid0.coords t) d0 (win0_0.cut (grid0.coords t) (xblk m c t)))
      rw [cut_xblk]
    isplitl [H1]; · iexact H1
    iexact H2

/-! ## The run -/

/-- What the launch hands the region is the invariant before the first point. -/
theorem hin (c : Dev nD) : Pipeline.ΦA spec0 c ⊢ (dats m 0 c).Φ 0 := Idealize.SL.BI.Entails.refl _

/-- After the last point the invariant gives it back. -/
theorem hout (c : Dev nD) : (dats m 0 c).Φ (Fin.last cfg0.N) ⊢ Pipeline.ΦA spec0 c :=
  inv_start m c cfg0.N (Nat.le_refl _)

-- the launch theorem's implicit arguments are found by unifying its conclusion with this one, which takes unfolding
-- plain definitions in a metavariable's type
set_option backward.isDefEq.respectTransparency.types false in
set_option maxHeartbeats 800000 in
/-- From any memory with zero counters every weakly fair execution of the program terminates, with every array of the
    pipeline at what the proof data say, the host lines after the region run, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_posts : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_posts m ρ)

/-- The argument arrays end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_quiescent m ρ))

end Cert.KernelIdeal.Body

end
-- ==== Proof.BitsFrame.lean ====
/-
  The printed program's frame. Its text is the idealized program's with the literals' words where that has named
  constants, so at float words, each name read as its literal's word, the two are one program.
-/
module

public import proofs.«01_k».proof.Proof.Data
public import proofs.«01_k».proof.Proof.Gen.Kernel
public import Idealize.ShloMosaic.PureOps.BitExact

@[expose] public section

set_option maxRecDepth 16384

noncomputable section

namespace Cert.Kernel.Body

open Idealize.ShloMosaic Idealize.SL.Sem

/-- At float words a named constant is its literal's word. -/
@[reducible] def wordOfName : Named Bits where
  named _ _ {φ} bits := Scalar.ofBits φ bits

/-- The two programs' body tables. -/
theorem defs₀_eq : (letI := wordOfName; Cert.KernelIdeal.defs₀ (F := Bits)) = Cert.Kernel.defs₀ (F := Bits) := by
  unfold Cert.KernelIdeal.defs₀ Cert.Kernel.defs₀
  exact congrArg (Defs.onTc (nD := Cert.Kernel.nD) (τ := Cert.Kernel.τ) (sig := Cert.Kernel.sig) (Val := Elt Bits) (Λ := Cert.Kernel.Λ₀))
    (funext fun l => funext fun a => match l, a with
      | 0, (_, _) => rfl
      | ⟨_ + 1, h⟩, _ => absurd h (Nat.not_lt.2 (Nat.le_add_left _ _)))

/-- The two programs' tables, the pipeline's rows included. -/
theorem defs_eq : (letI := wordOfName; Cert.KernelIdeal.defs (F := Bits)) = Cert.Kernel.defs (F := Bits) :=
  congrArg (Pipeline.defs Cert.Kernel.pcfgs) defs₀_eq

set_option maxHeartbeats 4000000 in
/-- The printed program's argument arrays end unchanged and its counters at zero: the idealized program's frame at float
    words. -/
theorem quiescent (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  letI := wordOfName
  rw [← defs_eq]
  exact Cert.KernelIdeal.Body.quiescent (F := Bits) m g

end Cert.Kernel.Body

end
-- ==== Proof.Sums.lean ====
/-
  Sums of reals the value claim rests on: a row's columns counted lane by lane, and one row's loss written the kernel's
  way and the reference's way. Nothing here mentions a program.
-/
module

public import Mathlib.Analysis.SpecialFunctions.Log.Basic
public import Mathlib.Algebra.BigOperators.Intervals

@[expose] public section

noncomputable section

namespace Cert.KernelIdeal.Sums

open Finset

/-- The number of a row's columns that lane `q` holds: 781, and one more in the first 32 lanes. -/
def depth (q : ℕ) : ℕ := 781 + if q < 32 then 1 else 0

/-- A sum over chunks of `w`, chunk by chunk, is the sum over their members. -/
theorem sum_chunks (w : ℕ) (f : ℕ → ℝ) (n : ℕ) : ∑ i ∈ range n, ∑ q ∈ range w, f (w * i + q) = ∑ k ∈ range (w * n), f k := by
  induction n with
  | zero => rfl
  | succ n ih => rw [sum_range_succ, ih, Nat.mul_succ, sum_range_add]

/-- A sum over a row's columns, lane by lane. -/
theorem sum_lanes (f : ℕ → ℝ) : ∑ q ∈ range 128, ∑ i ∈ range (depth q), f (128 * i + q) = ∑ k ∈ range 100000, f k := by
  have tail : ∀ q ∈ range 128, ∑ i ∈ range (depth q), f (128 * i + q)
      = ∑ i ∈ range 781, f (128 * i + q) + if q < 32 then f (99968 + q) else 0 := by
    intro q _
    unfold depth
    split
    · exact sum_range_succ _ _
    · exact (add_zero _).symm
  have first : ∑ q ∈ range 128, (if q < 32 then f (99968 + q) else 0) = ∑ q ∈ range 32, f (99968 + q) := by
    rw [← sum_filter]
    refine sum_congr (ext fun q => ?_) fun _ _ => rfl
    simp only [mem_filter, mem_range]
    omega
  rw [sum_congr rfl tail, sum_add_distrib, sum_comm, sum_chunks 128, first]
  exact (sum_range_add f 99968 32).symm

/-- The sum of one column's entry, the others zero. -/
theorem sum_at (r : ℕ → ℝ) (Y : ℕ) (hY : Y < 100000) : ∑ k ∈ range 100000, (if k = Y then r k else 0) = r Y := by
  rw [sum_ite_eq' (range 100000) Y r, if_pos (mem_range.mpr hY)]

/-- The logarithm of a row's sum of exponentials, taken relative to any number. -/
def logSum (r : ℕ → ℝ) (M : ℝ) : ℝ := M + Real.log (∑ k ∈ range 100000, Real.exp (r k - M))

/-- A row's sum of exponentials is positive. -/
theorem expSum_pos (r : ℕ → ℝ) (M : ℝ) : 0 < ∑ k ∈ range 100000, Real.exp (r k - M) :=
  sum_pos (fun _ _ => Real.exp_pos _) ⟨0, mem_range.mpr (by decide)⟩

/-- It is the same whichever number it is taken relative to. -/
theorem logSum_eq (r : ℕ → ℝ) (M : ℝ) : logSum r M = logSum r 0 := by
  have e : ∑ k ∈ range 100000, Real.exp (r k - 0) = Real.exp M * ∑ k ∈ range 100000, Real.exp (r k - M) := by
    rw [mul_sum]
    refine sum_congr rfl fun k _ => ?_
    rw [← Real.exp_add, add_sub_cancel, sub_zero]
  unfold logSum
  rw [e, Real.log_mul (Real.exp_ne_zero _) (expSum_pos r M).ne', Real.log_exp]
  ring

/-- One entry of a row's loss as the reference has it: nothing at column 0, the confident weight `C` at the label, the
    smoothing weight `e` elsewhere. -/
def entry (r : ℕ → ℝ) (Y : ℕ) (e C L : ℝ) (k : ℕ) : ℝ :=
  if k = 0 then 0 else if k = Y then C * (Real.log C - (r k - L)) else e * (Real.log e - (r k - L))

/-- One row's loss: nothing for the padding label, else the sum of its entries. -/
def rowValue (r : ℕ → ℝ) (Y : ℕ) (e C : ℝ) : ℝ :=
  if Y = 0 then 0 else ∑ k ∈ range 100000, entry r Y e C (logSum r 0) k

/-- The kernel's closed form of a row's loss is the sum of its entries, when the smoothing mass is 99998 weights. -/
theorem closed_form (r : ℕ → ℝ) (Y : ℕ) (h0 : Y ≠ 0) (hY : Y < 100000) (e C s L : ℝ) (hs : s = 99998 * e) :
    s * Real.log e + C * Real.log C - e * (∑ k ∈ range 100000, r k - r 0 - r Y - 99998 * L) - C * (r Y - L)
      = ∑ k ∈ range 100000, entry r Y e C L k := by
  have split : ∀ k ∈ range 100000, entry r Y e C L k
      = (e * (Real.log e + L) - e * r k) + ((if k = 0 then -(e * (Real.log e - (r k - L))) else 0)
        + (if k = Y then C * (Real.log C - (r k - L)) - e * (Real.log e - (r k - L)) else 0)) := by
    intro k _
    unfold entry
    by_cases hk : k = 0
    · subst hk; rw [if_pos rfl, if_pos rfl, if_neg (Ne.symm h0)]; ring
    · rw [if_neg hk, if_neg hk]
      split <;> ring
  rw [sum_congr rfl split, sum_add_distrib, sum_add_distrib, sum_sub_distrib, sum_const, card_range,
    sum_at (fun k => -(e * (Real.log e - (r k - L)))) 0 (by decide),
    sum_at (fun k => C * (Real.log C - (r k - L)) - e * (Real.log e - (r k - L))) Y hY, hs, nsmul_eq_mul,
    ← mul_sum]
  push_cast
  ring

end Cert.KernelIdeal.Sums

end
-- ==== Proof.Lanes.lean ====
/-
  One block at the ideal values, entry by entry: when a block's entries are reals, each of its folds at a row and lane is
  the corresponding real sum over that lane's columns.
-/
module

public import proofs.«01_k».proof.Proof.Columns
public import proofs.«01_k».proof.Proof.Sums
public import Idealize.ShloMosaic.Lib.Pointwise
public import Idealize.ShloMosaic.PureOps.Ideal.Laws

@[expose] public section

noncomputable section

namespace Cert.KernelIdeal.Block

open Cert.KernelIdeal Cert.KernelIdeal.Gen
open Idealize.ShloMosaic
open Finset

/-- The exponentials of the first `n` columns of lane `q`, relative to `M`. -/
def laneExp (r : ℕ → ℝ) (q n : ℕ) (M : ℝ) : ℝ := ∑ i ∈ range n, Real.exp (r (128 * i + q) - M)

/-- The sum of the first `n` columns of lane `q`. -/
def laneSum (r : ℕ → ℝ) (q n : ℕ) : ℝ := ∑ i ∈ range n, r (128 * i + q)

/-- The entry at column `Y` if it is among the first `n` columns of lane `q`, else zero. -/
def laneLabel (r : ℕ → ℝ) (Y q n : ℕ) : ℝ := ∑ i ∈ range n, if 128 * i + q = Y then r (128 * i + q) else 0

variable (r : ℕ → ℝ) (Y n₀ : ℕ) (j : S256x128.Idx)

/-- The entries of the first `n` chunks at `j` are the row's, counted from chunk `n₀` of the row. -/
def Reads (ch : Fin 80 → Vec Ideal S256x128 .f32) (n : ℕ) : Prop :=
  ∀ k : Fin 80, k.val < n → ch k j = ((r (128 * (n₀ + k.val) + (j 1).val) : ℝ) : EReal)

variable {r Y n₀ j} {ch : Fin 80 → Vec Ideal S256x128 .f32}

/-- The zero word is the real zero. -/
theorem zeros_apply : (zeros : FVec Ideal S256x128 .f32) j = ((0 : ℝ) : EReal) := Ideal.ofBits_zero_f32

/-- The word of `−∞` is the least extended real. -/
theorem negInfs_apply : (negInfs : FVec Ideal S256x128 .f32) j = (⊥ : EReal) := by
  show Ideal.ofBits .f32 0xFF800000#32 = ⊥
  simp [Ideal.ofBits, Ideal.ieee]

/-- The maximum of chunks of reals is a real. -/
theorem maxUpTo_real (n : ℕ) (h : n < 80) (e : Reads r n₀ j ch (n + 1)) : ∃ M : ℝ, maxUpTo ch n h j = ((M : ℝ) : EReal) := by
  induction n with
  | zero => exact ⟨_, e ⟨0, h⟩ (Nat.zero_lt_one)⟩
  | succ n ih =>
    obtain ⟨M, hM⟩ := ih (Nat.lt_of_succ_lt h) fun k hk => e k (Nat.lt_succ_of_lt hk)
    refine ⟨max M (r (128 * (n₀ + (n + 1)) + (j 1).val)), ?_⟩
    show max (maxUpTo ch n _ j) (ch ⟨n + 1, h⟩ j) = _
    rw [hM, e ⟨n + 1, h⟩ (Nat.lt_succ_self _)]
    exact (Monotone.map_max EReal.coe_strictMono.monotone).symm

/-- The sum of exponentials, from the row's first `n₀` columns of the lane to its first `n₀ + n`. -/
theorem expSum_real (mx init : FVec Ideal S256x128 .f32) {M : ℝ} (hM : mx j = (M : EReal)) (hi : init j = (laneExp r (j 1).val n₀ M : EReal))
    (n : ℕ) (h : n ≤ 80) (e : Reads r n₀ j ch n) : expSum ch mx init n h j = (laneExp r (j 1).val (n₀ + n) M : EReal) := by
  induction n with
  | zero => exact hi
  | succ n ih =>
    show expSum ch mx init n _ j + Ideal.exp (ch ⟨n, h⟩ j - mx j) = _
    rw [ih (Nat.le_of_succ_le h) fun k hk => e k (Nat.lt_succ_of_lt hk), e ⟨n, h⟩ (Nat.lt_succ_self _), hM, ← EReal.coe_sub,
      Ideal.exp_coe, ← EReal.coe_add]
    exact congrArg _ (sum_range_succ _ _).symm

/-- The plain sum likewise. -/
theorem plainSum_real (init : FVec Ideal S256x128 .f32) (hi : init j = (laneSum r (j 1).val n₀ : EReal))
    (n : ℕ) (h : n ≤ 80) (e : Reads r n₀ j ch n) : plainSum ch init n h j = (laneSum r (j 1).val (n₀ + n) : EReal) := by
  induction n with
  | zero => exact hi
  | succ n ih =>
    show plainSum ch init n _ j + ch ⟨n, h⟩ j = _
    rw [ih (Nat.le_of_succ_le h) fun k hk => e k (Nat.lt_succ_of_lt hk), e ⟨n, h⟩ (Nat.lt_succ_self _), ← EReal.coe_add]
    exact congrArg _ (sum_range_succ _ _).symm

/-- Whether a lane is the label's column, as words and as numbers. -/
theorem lane_eq_label (J n q : ℕ) (hJ : J < 10) (hn : n < 80) (hq : q < 128) (hY : Y < 100000) :
    Scalar.cmpi .eq (BitVec.ofNat 32 q) (BitVec.ofNat 32 Y - BitVec.ofNat 32 J * 10240#32 - BitVec.ofNat 32 (128 * n)) = 1#1
      ↔ 128 * (80 * J + n) + q = Y := by
  have e : ∀ a b : BitVec 32, Scalar.cmpi .eq a b = 1#1 ↔ a = b := by
    intro a b
    show BitVec.ofBool (a == b) = 1#1 ↔ a = b
    by_cases h : a = b
    · subst h; simp
    · rw [beq_eq_false_iff_ne.mpr h]; exact iff_of_false (by decide) h
  rw [e]
  bv_omega

/-- One chunk's entry at the label's column. -/
theorem atLabel_real (y : IVec S256x1 32) (J n : ℕ) (hJ : J < 10) (hn : n < 80) (hY : Y < 100000)
    (hy : y (ix2 (j 0) 0) = BitVec.ofNat 32 Y) (v : FVec Ideal S256x128 .f32) :
    atLabel (labelIn y J) n v j = if 128 * (80 * J + n) + (j 1).val = Y then v j else ((0 : ℝ) : EReal) := by
  have hb : broadcastTo S256x128 (subi (labelIn y J) (broadcast S256x1 (BitVec.ofNat 32 (128 * n)))) broadcasts_S256x1_S256x128 j
      = BitVec.ofNat 32 Y - BitVec.ofNat 32 J * 10240#32 - BitVec.ofNat 32 (128 * n) := by
    rw [← hy]
    pointwise
    rfl
  have hl : lanes j = BitVec.ofNat 32 (j 1).val := iota_single_apply _ _ _ _ _ j
  show (if Scalar.cmpi .eq (lanes j) (broadcastTo S256x128 _ _ j) = 1#1 then v j else (zeros : FVec Ideal S256x128 .f32) j) = _
  rw [hb, hl, zeros_apply]
  exact if_congr (lane_eq_label J n _ hJ hn (j 1).isLt hY) rfl rfl

/-- The label's entry likewise. -/
theorem labelSum_real (y : IVec S256x1 32) (J : ℕ) (hJ : J < 10) (hY : Y < 100000) (hy : y (ix2 (j 0) 0) = BitVec.ofNat 32 Y)
    (init : FVec Ideal S256x128 .f32) (hi : init j = (laneLabel r Y (j 1).val (80 * J) : EReal))
    (n : ℕ) (h : n ≤ 80) (e : Reads r (80 * J) j ch n) :
    labelSum ch (labelIn y J) init n h j = (laneLabel r Y (j 1).val (80 * J + n) : EReal) := by
  induction n with
  | zero => exact hi
  | succ n ih =>
    show labelSum ch (labelIn y J) init n _ j + atLabel (labelIn y J) n (ch ⟨n, h⟩) j = _
    rw [ih (Nat.le_of_succ_le h) fun k hk => e k (Nat.lt_succ_of_lt hk), atLabel_real y J n hJ (Nat.lt_of_succ_le h) hY hy,
      e ⟨n, h⟩ (Nat.lt_succ_self _), ← apply_ite (fun a : ℝ => (a : EReal)), ← EReal.coe_add]
    exact congrArg _ (sum_range_succ _ _).symm

/-! ## The running state, lane by lane -/

variable (r Y j) in
/-- What the state holds at a row and lane once the first `n` columns of the lane have been seen: the maximum is some
    real, and the sums are the lane's (the sum of exponentials relative to that maximum). -/
structure HeldAt (n : ℕ) (s : Running Ideal) : Prop where
  top : ∃ M : ℝ, s.top j = (M : EReal) ∧ s.exps j = (laneExp r (j 1).val n M : EReal)
  total : s.total j = (laneSum r (j 1).val n : EReal)
  label : s.label j = (laneLabel r Y (j 1).val n : EReal)

/-- Rescaling a lane's sum of exponentials from one number to another. -/
theorem laneExp_rescale (q n : ℕ) (M M' : ℝ) : laneExp r q n M * Real.exp (M - M') = laneExp r q n M' := by
  unfold laneExp
  rw [sum_mul]
  refine sum_congr rfl fun i _ => ?_
  rw [← Real.exp_add, sub_add_sub_cancel]

/-- The rescaled sum at an entry, from reals. -/
theorem rescale_real (m s mx : FVec Ideal S256x128 .f32) {n : ℕ} {M M' : ℝ} (hm : m j = (M : EReal))
    (hs : s j = (laneExp r (j 1).val n M : EReal)) (hM : mx j = (M' : EReal)) :
    mulf s (exp (subf m mx)) j = (laneExp r (j 1).val n M' : EReal) := by
  show s j * Ideal.exp (m j - mx j) = _
  rw [hm, hs, hM, ← EReal.coe_sub, Ideal.exp_coe, ← EReal.coe_mul, laneExp_rescale]

/-- The rescaled sum at an entry, at the start: nothing. -/
theorem rescale_start (mx : FVec Ideal S256x128 .f32) {M' : ℝ} (hM : mx j = (M' : EReal)) :
    mulf zeros (exp (subf negInfs mx)) j = (laneExp r (j 1).val 0 M' : EReal) := by
  show (zeros : FVec Ideal S256x128 .f32) j * Ideal.exp ((negInfs : FVec Ideal S256x128 .f32) j - mx j) = _
  rw [zeros_apply, EReal.coe_zero, zero_mul]
  rfl

variable (X : Vec Ideal S256x10240 .f32) (y : IVec S256x1 32) (s : Running Ideal)

/-- The first column block. -/
theorem HeldAt.first (hX : Reads r 0 j (chunk X) 80) (hY : Y < 100000) (hy : y (ix2 (j 0) 0) = BitVec.ofNat 32 Y) :
    HeldAt r Y j 80 (Running.next 0 X y s) := by
  obtain ⟨M, hM⟩ := maxUpTo_real 79 (by decide) hX
  have hT : fullMax X negInfs j = (M : EReal) := by
    show max ((negInfs : FVec Ideal S256x128 .f32) j) (maxUpTo (chunk X) 79 _ j) = _
    rw [negInfs_apply, hM, max_eq_right bot_le]
  refine ⟨⟨M, hT, ?_⟩, ?_, ?_⟩
  · exact (expSum_real (n₀ := 0) _ _ hT (rescale_start _ hT) 80 (Nat.le_refl _) hX)
  · exact (plainSum_real (n₀ := 0) _ zeros_apply 80 (Nat.le_refl _) hX)
  · exact (labelSum_real y 0 (by decide) hY hy _ zeros_apply 80 (Nat.le_refl _) hX)

/-- A column block between the first and the last. -/
theorem HeldAt.inner (J : ℕ) (h0 : J ≠ 0) (h9 : J < 9) (hs : HeldAt r Y j (80 * J) s) (hX : Reads r (80 * J) j (chunk X) 80)
    (hY : Y < 100000) (hy : y (ix2 (j 0) 0) = BitVec.ofNat 32 Y) : HeldAt r Y j (80 * J + 80) (Running.next J X y s) := by
  obtain ⟨⟨M₀, hm, he⟩, ht, hl⟩ := hs
  obtain ⟨M, hM⟩ := maxUpTo_real 79 (by decide) hX
  have hT : fullMax X s.top j = ((max M₀ M : ℝ) : EReal) := by
    show max (s.top j) (maxUpTo (chunk X) 79 _ j) = _
    rw [hm, hM]; exact (Monotone.map_max EReal.coe_strictMono.monotone).symm
  unfold Running.next
  rw [if_neg h0, if_neg (by omega)]
  refine ⟨⟨_, hT, ?_⟩, ?_, ?_⟩
  · exact expSum_real _ _ hT (rescale_real _ _ _ hm he hT) 80 (Nat.le_refl _) hX
  · exact plainSum_real _ ht 80 (Nat.le_refl _) hX
  · exact labelSum_real y J (by omega) hY hy _ hl 80 (Nat.le_refl _) hX

/-- The last column block. -/
theorem HeldAt.last (hs : HeldAt r Y j 720 s) (hX : Reads r 720 j (chunk X) 61)
    (hx : (j 1).val < 32 → chunk X 61 j = ((r (128 * 781 + (j 1).val) : ℝ) : EReal))
    (hY : Y < 100000) (hy : y (ix2 (j 0) 0) = BitVec.ofNat 32 Y) : HeldAt r Y j (Sums.depth (j 1).val) (Running.next 9 X y s) := by
  obtain ⟨⟨M₀, hm, he⟩, ht, hl⟩ := hs
  obtain ⟨M, hM⟩ := maxUpTo_real 60 (by decide) hX
  have hlow : tailLow X j = if (j 1).val < 32 then chunk X 61 j else (⊥ : EReal) := by
    show (if inTail j = 1#1 then chunk X 61 j else (negInfs : FVec Ideal S256x128 .f32) j) = _
    rw [negInfs_apply]; exact if_congr (inTail_iff j) rfl rfl
  have hzero : tailZero X j = if (j 1).val < 32 then chunk X 61 j else ((0 : ℝ) : EReal) := by
    show (if inTail j = 1#1 then chunk X 61 j else (zeros : FVec Ideal S256x128 .f32) j) = _
    rw [zeros_apply]; exact if_congr (inTail_iff j) rfl rfl
  have hT : ∃ M' : ℝ, lastMax X s.top j = (M' : EReal) := by
    show ∃ M' : ℝ, max (s.top j) (max (maxUpTo (chunk X) 60 _ j) (tailLow X j)) = (M' : EReal)
    rw [hm, hM, hlow]
    split
    · rename_i h
      rw [hx h]
      exact ⟨max M₀ (max M _), by rw [Monotone.map_max EReal.coe_strictMono.monotone, Monotone.map_max EReal.coe_strictMono.monotone]⟩
    · exact ⟨max M₀ M, by rw [max_eq_left bot_le, Monotone.map_max EReal.coe_strictMono.monotone]⟩
  obtain ⟨M', hT⟩ := hT
  have he' := expSum_real _ _ hT (rescale_real _ _ _ hm he hT) 61 (by decide) hX
  have ht' := plainSum_real _ ht 61 (by decide) hX
  have hl' := labelSum_real y 9 (by decide) hY hy _ hl 61 (by decide) hX
  show HeldAt r Y j (Sums.depth (j 1).val)
    ⟨lastMax X s.top, lastExp X s.top s.exps, lastSum X s.total, lastLabel X y 9 s.label, s.first⟩
  refine ⟨⟨M', hT, ?_⟩, ?_, ?_⟩
  · show expSum (chunk X) _ _ 61 _ j + Ideal.exp (tailLow X j - lastMax X s.top j) = _
    rw [he', hlow, hT]
    unfold Sums.depth
    split
    · rename_i h
      rw [hx h, ← EReal.coe_sub, Ideal.exp_coe, ← EReal.coe_add]
      exact congrArg _ (sum_range_succ _ _).symm
    · rw [EReal.bot_sub, Ideal.exp_bot, add_zero]
  · show plainSum (chunk X) _ 61 _ j + tailZero X j = _
    rw [ht', hzero]
    unfold Sums.depth
    split
    · rename_i h
      rw [hx h, ← EReal.coe_add]
      exact congrArg _ (sum_range_succ _ _).symm
    · rw [EReal.coe_zero, add_zero]
  · show labelSum (chunk X) _ _ 61 _ j + atLabel (labelIn y 9) 61 (tailZero X) j = _
    rw [hl', atLabel_real y 9 61 (by decide) (by decide) hY hy, hzero]
    unfold Sums.depth
    by_cases h : (j 1).val < 32
    · rw [if_pos h, if_pos h, hx h, ← apply_ite (fun a : ℝ => (a : EReal)), ← EReal.coe_add]
      exact congrArg _ (sum_range_succ _ _).symm
    · rw [if_neg h, if_neg h, ite_self, EReal.coe_zero, add_zero]

end Cert.KernelIdeal.Block
-- ==== Proof.Rows.lean ====
/-
  A row block's loss at the ideal values: from a running state that holds a row's sums, lane by lane, the kernel's last
  step computes each row's loss and adds the rows.
-/
module

public import proofs.«01_k».proof.Proof.Lanes
public import proofs.«01_k».proof.Proof.LastBlock

@[expose] public section

noncomputable section

namespace Cert.KernelIdeal.Block

open Cert.KernelIdeal Cert.KernelIdeal.Gen
open Idealize.ShloMosaic
open Finset

/-- The smoothing weight, the number its f32 word encodes. -/
def eps : ℝ := 8796269 / 8796093022208

/-- The confident weight, the number its f32 word encodes. -/
def conf : ℝ := 7549747 / 8388608

/-- The smoothing weight's float word denotes `eps`. -/
theorem eps_word : Ideal.ofBits .f32 0x3586386D#32 = (eps : EReal) := by
  unfold eps; simp [Ideal.ofBits, Ideal.ieee, -EReal.coe_mul]; norm_num

/-- The confident weight's float word denotes `conf`. -/
theorem conf_word : Ideal.ofBits .f32 0x3F666666#32 = (conf : EReal) := by
  unfold conf; simp [Ideal.ofBits, Ideal.ieee, -EReal.coe_mul]; norm_num

/-- The float word of the number of smoothed columns denotes 99998. -/
theorem columns_word : Ideal.ofBits .f32 0x47C34F00#32 = ((99998 : ℝ) : EReal) := by
  simp [Ideal.ofBits, Ideal.ieee, -EReal.coe_mul]; norm_num

/-- The float word of `−∞` denotes it. -/
theorem negInf_word : Ideal.ofBits .f32 0xFF800000#32 = ⊥ := by
  simp [Ideal.ofBits, Ideal.ieee]

/-- The smoothing weight is positive. -/
theorem eps_pos : 0 < eps := by unfold eps; norm_num

/-- The confident weight is positive. -/
theorem conf_pos : 0 < conf := by unfold conf; norm_num

/-- The logarithm of a positive real. -/
theorem log_pos_coe {a : ℝ} (h : 0 < a) : Ideal.log (a : EReal) = (Real.log a : EReal) := by
  rw [Ideal.log_coe, if_neg (not_le.mpr h)]

/-- A sum of reals among the extended reals is the real sum. -/
theorem coe_sum {ι : Type} (s : Finset ι) (f : ι → ℝ) : ∑ i ∈ s, (f i : EReal) = ((∑ i ∈ s, f i : ℝ) : EReal) :=
  (map_sum (⟨⟨((↑) : ℝ → EReal), EReal.coe_zero⟩, EReal.coe_add⟩ : ℝ →+ EReal) f s).symm

/-- The maximum of finitely many reals, at least one, from `−∞` is a real. -/
theorem fold_max_real {ι : Type} (s : Finset ι) (hs : s.Nonempty) (f : ι → EReal) (hf : ∀ i, ∃ a : ℝ, f i = (a : EReal)) :
    ∃ M : ℝ, s.fold max (⊥ : EReal) f = (M : EReal) := by
  classical
  induction hs using Finset.Nonempty.cons_induction with
  | singleton i => obtain ⟨a, ha⟩ := hf i; exact ⟨a, by rw [fold_singleton, ha, max_eq_left bot_le]⟩
  | cons i t hi ht ih =>
    obtain ⟨a, ha⟩ := hf i
    obtain ⟨M, hM⟩ := ih
    exact ⟨max a M, by rw [fold_cons, ha, hM, Monotone.map_max EReal.coe_strictMono.monotone]⟩

/-- One row's loss as the kernel computes it from its lanes: `m`, `s`, `t`, `l` the row of the maximum, of the sum of
    exponentials, of the plain sum and of the label's entry, `z` the first column's entry, `w` the label's word. -/
def rowFrom (w : BitVec 32) (m s t l : Fin 128 → EReal) (z : EReal) : EReal :=
  let M := univ.fold max (Ideal.ofBits .f32 0xFF800000#32) m
  let L := M + Ideal.log (∑ q, s q * Ideal.exp (m q - M))
  Scalar.select (IntOp.cmpi .ne w 0#32)
    ((k0_pay170 (F := Ideal) : EReal) + Ideal.ofBits .f32 0x3F666666#32 * (k0_pay171 (F := Ideal) : EReal)
      - Ideal.ofBits .f32 0x3586386D#32 * (∑ q, t q - z - ∑ q, l q - Ideal.ofBits .f32 0x47C34F00#32 * L)
      - Ideal.ofBits .f32 0x3F666666#32 * (∑ q, l q - L)) 0

/-- The block's loss is the sum of its rows'. -/
theorem rowLoss_apply (y : IVec S256x1 32) (m s t l : Vec Ideal S256x128 .f32) (z : Vec Ideal S256x1 .f32) (i : S1x1x1.Idx) :
    Body.rowLoss y m s t l z i
      = ∑ p : Fin 256, rowFrom (y (ix2 p 0)) (fun q => m (ix2 p q)) (fun q => s (ix2 p q)) (fun q => t (ix2 p q))
          (fun q => l (ix2 p q)) (z (ix2 p 0)) := by
  unfold Body.rowLoss k0_pay8 k0_pay172
  pointwise
  exact sum_congr rfl fun p _ => Fin.sum_univ_one _

/-- A sum over the lanes of sums over a lane's columns is the sum over the row. -/
theorem lanes_total (f : ℕ → ℝ) : ∑ q : Fin 128, ∑ i ∈ range (Sums.depth q.val), f (128 * i + q.val) = ∑ k ∈ range 100000, f k :=
  (Fin.sum_univ_eq_sum_range (fun q => ∑ i ∈ range (Sums.depth q), f (128 * i + q)) 128).trans (Sums.sum_lanes f)

/-- A row whose lanes hold the row's sums has the row's loss. -/
theorem rowFrom_real (r : ℕ → ℝ) (Y : ℕ) (hY : Y < 100000) (m s t l : Fin 128 → EReal)
    (hm : ∀ q : Fin 128, ∃ M : ℝ, m q = (M : EReal) ∧ s q = (laneExp r q.val (Sums.depth q.val) M : EReal))
    (ht : ∀ q : Fin 128, t q = (laneSum r q.val (Sums.depth q.val) : EReal))
    (hl : ∀ q : Fin 128, l q = (laneLabel r Y q.val (Sums.depth q.val) : EReal)) :
    rowFrom (BitVec.ofNat 32 Y) m s t l (r 0 : EReal) = (Sums.rowValue r Y eps conf : EReal) := by
  obtain ⟨M, hM⟩ := fold_max_real univ ⟨(0 : Fin 128), mem_univ _⟩ m fun q => (hm q).imp fun _ h => h.1
  have hexp : ∑ q, s q * Ideal.exp (m q - (M : EReal)) = ((∑ k ∈ range 100000, Real.exp (r k - M) : ℝ) : EReal) := by
    rw [← lanes_total, ← coe_sum]
    refine sum_congr rfl fun q _ => ?_
    obtain ⟨M₀, h1, h2⟩ := hm q
    rw [h1, h2, ← EReal.coe_sub, Ideal.exp_coe, ← EReal.coe_mul, laneExp_rescale]
    rfl
  have hsum : ∑ q, t q = ((∑ k ∈ range 100000, r k : ℝ) : EReal) := by
    rw [← lanes_total, ← coe_sum]
    exact sum_congr rfl fun q _ => ht q
  have hlab : ∑ q, l q = (r Y : EReal) := by
    rw [← Sums.sum_at r Y hY, ← lanes_total, ← coe_sum]
    exact sum_congr rfl fun q _ => hl q
  have hlog : (M : EReal) + Ideal.log ((∑ k ∈ range 100000, Real.exp (r k - M) : ℝ) : EReal) = (Sums.logSum r 0 : EReal) := by
    rw [log_pos_coe (Sums.expSum_pos r M), ← EReal.coe_add, ← Sums.logSum_eq r M]
    rfl
  have hsm : (k0_pay170 (F := Ideal) : EReal) = ((99998 * eps * Real.log eps : ℝ) : EReal) := by
    show ((439804653731 / 4398046511104 : ℝ) : EReal) * Ideal.log (Ideal.ofBits .f32 0x3586386D#32) = _
    rw [eps_word, log_pos_coe eps_pos, ← EReal.coe_mul]
    unfold eps
    congr 2
    norm_num
  have hcf : (k0_pay171 (F := Ideal) : EReal) = (Real.log conf : EReal) := by
    show Ideal.log (Ideal.ofBits .f32 0x3F666666#32) = _
    rw [conf_word, log_pos_coe conf_pos]
  unfold rowFrom Sums.rowValue
  simp only [negInf_word, hM]
  rw [hexp, hlog, hsum, hlab, hsm, hcf, eps_word, conf_word, columns_word]
  have hw : IntOp.cmpi .ne (BitVec.ofNat 32 Y) 0#32 = if Y = 0 then 0#1 else 1#1 := by
    split
    · rename_i h; subst h; rfl
    · word_cmp
  rw [hw]
  split
  · rfl
  · rename_i h0
    rw [← Sums.closed_form r Y h0 hY eps conf (99998 * eps) (Sums.logSum r 0) rfl]
    push_cast
    rfl

/-- A running state that holds every row's sums gives the block's loss: the sum of the rows' losses. -/
theorem rowLoss_real (R : ℕ → ℕ → ℝ) (Y : ℕ → ℕ) (hY : ∀ p, Y p < 100000) (y : IVec S256x1 32) (s : Running Ideal)
    (hy : ∀ p : Fin 256, y (ix2 p 0) = BitVec.ofNat 32 (Y p.val))
    (hs : ∀ j : S256x128.Idx, HeldAt (R (j 0).val) (Y (j 0).val) j (Sums.depth (j 1).val) s)
    (hf : ∀ p : Fin 256, s.first (ix2 p 0) = (R p.val 0 : EReal)) (i : S1x1x1.Idx) :
    Body.rowLoss y s.top s.exps s.total s.label s.first i
      = ((∑ p ∈ range 256, Sums.rowValue (R p) (Y p) eps conf : ℝ) : EReal) := by
  rw [rowLoss_apply, ← Fin.sum_univ_eq_sum_range (fun p => Sums.rowValue (R p) (Y p) eps conf), ← coe_sum]
  refine sum_congr rfl fun p _ => ?_
  rw [hy, hf]
  exact rowFrom_real _ _ (hY _) _ _ _ _ (fun q => (hs (ix2 p q)).top) (fun q => (hs (ix2 p q)).total) (fun q => (hs (ix2 p q)).label)

end Cert.KernelIdeal.Block

end
-- ==== Proof.Contents.lean ====
/-
  What the copied blocks hold, in terms of the arrays `x` and `y` the kernel is given: row `256 i + p` and column
  `10240 j + q` of `x` at the point of row block `i` and column block `j`, and the labels of the row block.
-/
module

public import proofs.«01_k».proof.Proof.Data
public import proofs.«01_k».proof.Proof.Rows

@[expose] public section

set_option maxRecDepth 16384

noncomputable section

namespace Cert.KernelIdeal.Body

open Cert.KernelIdeal Cert.KernelIdeal.Gen Cert.KernelIdeal.Block
open Idealize.ShloMosaic Idealize.ShloMosaic.TcCoe
open Idealize.ShloMosaic.Pipeline (Dat Cfg Window)

variable (m : (ℓ : Loc nD τ sig) → Buf (Elt Ideal) ℓ) (c : Dev nD)

/-- The launch memory holds the reals `x` and the labels `Y`, each below 100000. -/
structure Inputs (x : ℕ → ℕ → ℝ) (Y : ℕ → ℕ) : Prop where
  values : ∀ i : S2048x100000.Idx, m ((c : Thread nD τ).loc main_arg0) i = (x (i 0).val (i 1).val : EReal)
  labels : ∀ i : S2048.Idx, m ((c : Thread nD τ).loc main_arg1) i = BitVec.ofNat 32 (Y (i 0).val)
  bound : ∀ i, Y i < 100000

variable {m c} {x : ℕ → ℕ → ℝ} {Y : ℕ → ℕ}

/-- The row block of the logits at point `t`. -/
theorem rows_index : ∀ t : Fin cfg0.N, (cfg0.win 0).index t 0 = t.val / 10 :=
  (by decide +kernel : ∀ t : Fin grid0.N, win0_0.index t 0 = t.val / 10)
/-- The column block of the logits at point `t`. -/
theorem cols_index : ∀ t : Fin cfg0.N, (cfg0.win 0).index t 1 = t.val % 10 :=
  (by decide +kernel : ∀ t : Fin grid0.N, win0_0.index t 1 = t.val % 10)
/-- The row block of the labels at point `t`. -/
theorem label_index : ∀ t : Fin cfg0.N, (cfg0.win 1).index t 0 = t.val / 10 :=
  (by decide +kernel : ∀ t : Fin grid0.N, win0_1.index t 0 = t.val / 10)
/-- The row block whose loss point `t` writes. -/
theorem out_index : ∀ t : Fin cfg0.N, (cfg0.win 2).index t 0 = t.val / 10 :=
  (by decide +kernel : ∀ t : Fin grid0.N, win0_2.index t 0 = t.val / 10)

/-- An entry of the block at point `t` whose column is in the array. -/
theorem xblk_apply (h : Inputs m c x Y) (t : Fin cfg0.N) (j : S256x10240.Idx) (hj : (j 1).val < if t.val % 10 = 9 then 7840 else 10240) :
    xblk m c t j = (x (256 * (t.val / 10) + (j 0).val) (10240 * (t.val % 10) + (j 1).val) : EReal) := by
  have hm := (moved_iff_cols t j).mpr hj
  unfold xblk Window.fill
  rw [dif_pos hm]
  unfold iblk
  show V m c main_arg0 (((cfg0.win 0).blk t).view.emb _) = _
  rw [V_main_arg0]
  refine (h.values _).trans ?_
  have e0 := (cfg0.win 0).rect_emb_val t (fun a => ⟨(j a).val, (win0_0.moved_iff _ j).mp hm a⟩) 0
  have e1 := (cfg0.win 0).rect_emb_val t (fun a => ⟨(j a).val, (win0_0.moved_iff _ j).mp hm a⟩) 1
  rw [rows_index] at e0
  rw [cols_index] at e1
  refine congrArg₂ (fun a b => ((x a b : ℝ) : EReal)) (e0.trans ?_) (e1.trans ?_)
  · show t.val / 10 * 256 + (j 0).val = _; omega
  · show t.val % 10 * 10240 + (j 1).val = _; omega

/-- The column of labels the region finds: the labels, one to a row. -/
theorem V_labels : V m c main_call0_v0 = shapeCast S2048x1 (m ((c : Thread nD τ).loc main_arg1)) shapeCasts_S2048_S2048x1 := by
  show StableHlo.after (List.flatten [hostOps0]) _ (Proc.devRef .tc main_call0_v0) = _
  simp only [hostOps0, List.flatten_cons, List.flatten_nil, List.append_nil]
  after_results
  rfl

/-- It read at a row. -/
theorem V_labels_apply (h : Inputs m c x Y) (i : S2048x1.Idx) : V m c main_call0_v0 i = BitVec.ofNat 32 (Y (i 0).val) := by
  rw [V_labels]
  pointwise
  exact h.labels _

/-- The labels of a row block. -/
theorem yblk_apply (h : Inputs m c x Y) (t : Fin cfg0.N) (p : Fin 256) :
    yblk m c t (ix2 p 0) = BitVec.ofNat 32 (Y (256 * (t.val / 10) + p.val)) := by
  unfold yblk iblk
  show V m c main_call0_v0 (((cfg0.win 1).blk t).view.emb _) = _
  rw [V_labels_apply h]
  have e0 := (cfg0.win 1).rect_emb_val t (ix2 p 0) 0
  rw [label_index] at e0
  refine congrArg (fun a => BitVec.ofNat 32 (Y a)) (e0.trans ?_)
  show t.val / 10 * 256 + p.val = _
  omega

/-! ## The state, point by point -/

/-- A whole chunk of the block at point `t`, where the block's columns up to the chunk's end are in the array. -/
theorem chunk_reads (h : Inputs m c x Y) (t : Fin cfg0.N) (j : S256x128.Idx) (k : Fin 80)
    (hk : 128 * k.val + (j 1).val < if t.val % 10 = 9 then 7840 else 10240) :
    chunk (xblk m c t) k j = (x (256 * (t.val / 10) + (j 0).val) (128 * (80 * (t.val % 10) + k.val) + (j 1).val) : EReal) := by
  rw [chunk_apply, xblk_apply h t _ hk]
  refine congrArg (fun a => ((x (256 * (t.val / 10) + (j 0).val) a : ℝ) : EReal)) ?_
  show 10240 * (t.val % 10) + (128 * k.val + (j 1).val) = _
  omega

/-- The number of a row's columns lane `q` has seen after column block `k`. -/
def seen (k q : ℕ) : ℕ := if k = 9 then Sums.depth q else 80 * k + 80

variable (x Y) in
/-- A state holds the sums of row block `b`'s rows once each lane `q` has seen `n q` columns, and the rows' first entries. -/
structure Holding (b : ℕ) (n : ℕ → ℕ) (s : Running Ideal) : Prop where
  lanes : ∀ j : S256x128.Idx, HeldAt (x (256 * b + (j 0).val)) (Y (256 * b + (j 0).val)) j (n (j 1).val) s
  first : ∀ p : Fin 256, s.first (ix2 p 0) = (x (256 * b + p.val) 0 : EReal)

/-- The first column of the first column block. -/
theorem firstCol_apply (h : Inputs m c x Y) (t : Fin cfg0.N) (h0 : t.val % 10 = 0) (p : Fin 256) :
    firstCol (xblk m c t) (ix2 p 0) = (x (256 * (t.val / 10) + p.val) 0 : EReal) := by
  unfold firstCol
  refine (xblk_apply h t _ ?_).trans ?_
  · rw [if_neg (by omega)]; exact Fin.isLt _
  · refine congrArg₂ (fun a b => ((x a b : ℝ) : EReal)) ?_ ?_
    · show 256 * (t.val / 10) + (0 + 1 * p.val) = _; omega
    · show 10240 * (t.val % 10) + (0 + 1 * 0) = _; omega

/-- One point takes the sums of the columns before its block to those with its block. -/
theorem holding_next (h : Inputs m c x Y) (t : Fin cfg0.N) (s : Running Ideal)
    (hs : t.val % 10 ≠ 0 → Holding x Y (t.val / 10) (fun _ => 80 * (t.val % 10)) s) :
    Holding x Y (t.val / 10) (seen (t.val % 10)) (Running.next (t.val % 10) (xblk m c t) (yblk m c t) s) := by
  have hr := fun j k => chunk_reads h t j k
  have hy : ∀ j : S256x128.Idx, yblk m c t (ix2 (j 0) 0) = BitVec.ofNat 32 (Y (256 * (t.val / 10) + (j 0).val)) := fun j => yblk_apply h t (j 0)
  have hfc := firstCol_apply h t
  have hJ : t.val % 10 < 10 := Nat.mod_lt _ (by decide)
  generalize t.val % 10 = J at *
  generalize t.val / 10 = b at *
  generalize xblk m c t = X at *
  generalize yblk m c t = yb at *
  have hlt : ∀ j : S256x128.Idx, (j 1).val < 128 := fun j => (j 1).isLt
  by_cases h0 : J = 0
  · subst h0
    refine ⟨fun j => ?_, fun p => hfc rfl p⟩
    exact HeldAt.first X yb s (fun k _ => hr j k (by have := hlt j; have := k.isLt; rw [if_neg (by decide)]; omega)) (h.bound _) (hy j)
  · by_cases h9 : J = 9
    · subst h9
      refine ⟨fun j => ?_, (hs h0).first⟩
      refine HeldAt.last X yb s ((hs h0).lanes j) (fun k hk => hr j k (by have := hlt j; rw [if_pos rfl]; omega))
        (fun hj => hr j 61 (by rw [if_pos rfl]; show 128 * 61 + _ < _; omega)) (h.bound _) (hy j)
    · refine ⟨fun j => ?_, fun p => ?_⟩
      · unfold seen
        rw [if_neg h9]
        exact HeldAt.inner X yb s J h0 (by omega) ((hs h0).lanes j)
          (fun k _ => hr j k (by have := hlt j; have := k.isLt; rw [if_neg h9]; omega)) (h.bound _) (hy j)
      · unfold Running.next
        rw [if_neg h0, if_neg h9]
        exact (hs h0).first p

/-- After point `n` the state holds the sums of the columns seen so far. -/
theorem stateAt_holding (h : Inputs m c x Y) (n : ℕ) (hn : n < cfg0.N) :
    Holding x Y (n / 10) (seen (n % 10)) (stateAt m c n hn) := by
  induction n with
  | zero => exact holding_next h ⟨0, hn⟩ blank fun e => absurd rfl e
  | succ n ih =>
    refine holding_next h ⟨n + 1, hn⟩ (stateAt m c n _) fun e => ?_
    have e : (n + 1) % 10 ≠ 0 := e
    have hp := ih (Nat.lt_of_succ_lt hn)
    show Holding x Y ((n + 1) / 10) (fun _ => 80 * ((n + 1) % 10)) _
    have e1 : (n + 1) / 10 = n / 10 := by omega
    have e2 : (n + 1) % 10 = n % 10 + 1 := by omega
    have e3 : n % 10 ≠ 9 := by omega
    rw [e1, e2, Nat.mul_succ]
    refine ⟨fun j => ?_, hp.first⟩
    have hl := hp.lanes j
    unfold seen at hl
    rwa [if_neg e3] at hl

variable (x Y) in
/-- The loss of row block `b`: the sum of its rows' losses. -/
def blockLoss (b : ℕ) : ℝ := ∑ p ∈ Finset.range 256, Sums.rowValue (x (256 * b + p)) (Y (256 * b + p)) eps conf

/-- The block written at a row block's last point is the row block's loss. -/
theorem outOf_apply (h : Inputs m c x Y) (t : Fin cfg0.N) (ht : t.val % 10 = 9) (i : S1x1x1.Idx) :
    outOf m c t i = (blockLoss x Y (t.val / 10) : EReal) := by
  have hs := stateAt_holding h t.val t.isLt
  rw [ht] at hs
  exact rowLoss_real (fun p => x (256 * (t.val / 10) + p)) (fun p => Y (256 * (t.val / 10) + p)) (fun _ => h.bound _) _ _
    (fun p => yblk_apply h t p) hs.lanes hs.first i

end Cert.KernelIdeal.Body

end
-- ==== Proof.Result.lean ====
/-
  The kernel's result at the ideal values: the array of the row blocks' losses after the last grid point, and the sum of
  it that is returned: the sum of every row's loss.
-/
module

public import proofs.«01_k».proof.Proof.Contents

@[expose] public section

set_option maxRecDepth 16384

noncomputable section

namespace Cert.KernelIdeal.Body

open Cert.KernelIdeal Cert.KernelIdeal.Gen Cert.KernelIdeal.Block
open Idealize.ShloMosaic Idealize.ShloMosaic.TcCoe
open Idealize.ShloMosaic.Pipeline (Dat Cfg Window)

variable {m : (ℓ : Loc nD τ sig) → Buf (Elt Ideal) ℓ} {c : Dev nD} {x : ℕ → ℕ → ℝ} {Y : ℕ → ℕ}

/-- The output block is copied out only at the last point of a row block. -/
theorem flush_last : ∀ t : Fin cfg0.N, (cfg0.win 2).flush t = true → t.val % 10 = 9 :=
  (by decide +kernel : ∀ t : Fin grid0.N, win0_2.flush t = true → t.val % 10 = 9)

/-- And at every such point. -/
theorem last_flush : ∀ t : Fin cfg0.N, t.val % 10 = 9 → (cfg0.win 2).flush t = true :=
  (by decide +kernel : ∀ t : Fin grid0.N, t.val % 10 = 9 → win0_2.flush t = true)

/-- The output block is the whole of the array's other two axes. -/
theorem out_index_rest : ∀ t : Fin cfg0.N, (cfg0.win 2).index t 1 = 0 ∧ (cfg0.win 2).index t 2 = 0 :=
  (by decide +kernel : ∀ t : Fin grid0.N, win0_2.index t 1 = 0 ∧ win0_2.index t 2 = 0)

variable (x Y) in
/-- The array of the row blocks' losses. -/
def losses : S8x1x1.Idx → EReal := fun i => (blockLoss x Y (i 0).val : EReal)

/-- After the last point the output array holds the row blocks' losses. -/
theorem parts_eq (h : Inputs m c x Y) : (dats m 0 c).arrAt 2 cfg0.N = losses x Y := by
  refine (dats m 0 c).arrAt_eq_of_cover 2 (losses x Y) (fun t hf => ?_) (fun i => ?_)
  · funext k
    have e0 := (cfg0.win 2).rect_emb_val t k 0
    rw [out_index] at e0
    show (dats m 0 c).after 2 t k = losses x Y (((cfg0.win 2).blk t).view.emb k)
    rw [after_2, outOf_apply h t (flush_last t hf)]
    refine congrArg (fun a => ((blockLoss x Y a : ℝ) : EReal)) (Eq.symm (e0.trans ?_))
    have hk : (k 0).val < 1 := (k 0).isLt
    show t.val / 10 * 1 + (k 0).val = _
    omega
  · have hi : (i 0).val < 8 := (i 0).isLt
    have hN : 10 * (i 0).val + 9 < cfg0.N := lt_of_lt_of_eq (by omega) N_0.symm
    refine ⟨⟨10 * (i 0).val + 9, hN⟩, last_flush _ (show (10 * (i 0).val + 9) % 10 = 9 by omega), ?_⟩
    have hpos : ∀ t : Fin cfg0.N, ∀ a, 0 < ((cfg0.win 2).xblock (cfg0.grid.coords t)).size a := fun _ a =>
      match a with
      | ⟨0, _⟩ => Nat.one_pos
      | ⟨1, _⟩ => Nat.one_pos
      | ⟨2, _⟩ => Nat.one_pos
    have e0 := (cfg0.win 2).rect_emb_val ⟨10 * (i 0).val + 9, hN⟩ (fun a => ⟨0, hpos _ a⟩) 0
    rw [out_index] at e0
    have e : ((cfg0.win 2).blk ⟨10 * (i 0).val + 9, hN⟩).view.emb (fun a => ⟨0, hpos _ a⟩) = i := by
      funext a
      apply Fin.ext
      match a with
      | ⟨0, _⟩ => refine e0.trans ?_; show (10 * (i 0).val + 9) / 10 * 1 + 0 = (i 0).val; omega
      | ⟨1, _⟩ => exact (Nat.lt_one_iff.mp (Fin.isLt (n := 1) _)).trans (Nat.lt_one_iff.mp (i 1).isLt).symm
      | ⟨2, _⟩ => exact (Nat.lt_one_iff.mp (Fin.isLt (n := 1) _)).trans (Nat.lt_one_iff.mp (i 2).isLt).symm
    have hmem := ((cfg0.win 2).blk ⟨10 * (i 0).val + 9, hN⟩).view.emb_mem_set (fun a => ⟨0, hpos _ a⟩)
    rw [e] at hmem
    exact hmem

/-- The returned sum. -/
theorem result_eq (h : Inputs m c x Y) (i : S_.Idx) :
    Pipeline.afterTail₀ cfgs (dats m) 0 (V0 m) [hostOps1] c main_v0 i = ((∑ k ∈ Finset.range 2048, Sums.rowValue (x k) (Y k) eps conf : ℝ) : EReal) := by
  unfold Pipeline.afterTail₀
  simp only [hostOps1, List.flatten_cons, List.flatten_nil, List.append_nil]
  after_results
  have hw : Pipeline.withArrays (cfgs 0).spec c (V0 m c) (fun w => (dats m 0 c).arrAt w (cfgs 0).N) (Proc.devRef .tc main_call0_v1)
      = losses x Y :=
    (Pipeline.withArrays_arr spec0 (by decide) c (V0 m c) (fun w => (dats m 0 c).arrAt w cfg0.N) 2).trans (parts_eq h)
  show Host.reduceAdd (F := Ideal) (φ := .f32) (Pipeline.withArrays (cfgs 0).spec c (V0 m c) (fun w => (dats m 0 c).arrAt w (cfgs 0).N) (Proc.devRef .tc main_call0_v1))
    (constant S_ .f32 0x00000000#32) reducesTo_S8x1x1_S_d0_1_2 h_S_ i = _
  rw [hw]
  pointwise
  have hb : ∑ b ∈ Finset.range 8, blockLoss x Y b = ∑ k ∈ Finset.range 2048, Sums.rowValue (x k) (Y k) eps conf :=
    Sums.sum_chunks 256 (fun k => Sums.rowValue (x k) (Y k) eps conf) 8
  rw [← hb, ← Fin.sum_univ_eq_sum_range, ← coe_sum]
  refine Finset.sum_congr rfl fun b _ => ?_
  rw [Fin.sum_univ_one, Fin.sum_univ_one]
  rfl

/-- The kernel, from a launch memory that holds the reals `x` and the labels `Y`, returns the sum of every row's loss
    and leaves its arguments as they were. -/
theorem returns (ρ : Dev nD → PrngReg) {xs : Dev nD → ℕ → ℕ → ℝ} {Ys : Dev nD → ℕ → ℕ} (h : ∀ c, Inputs m c (xs c) (Ys c)) :
    θ_run defs (onTc (τ := τ) (main (F := Ideal))) ⟨m, fun _ => 0, ρ⟩ (fun r => ∀ c : Dev nD,
      r.2.mem ((c.tc : Thread nD τ).loc main_v0) = (fun _ => ((∑ k ∈ Finset.range 2048, Sums.rowValue (xs c k) (Ys c k) eps conf : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c =>
    ⟨((hr.1 c).2 main_v0 (Pipeline.mem_restRefs_of main_v0 (by decide) (by decide))).trans (funext fun i => result_eq (h c) i), hr.2 c⟩)
    (θ_run_and (run_posts m ρ) (unchanged m ρ))

end Cert.KernelIdeal.Body

end
-- ==== Proof.Weights.lean ====
/-
  The reference's target weights, entry by entry: nothing at column 0 and in the rows of the padding label, the confident
  weight at the label, the smoothing weight elsewhere.
-/
module

public import proofs.«01_k».proof.Proof.Gen.ReferenceIdeal
public import proofs.«01_k».proof.Proof.Gen.ReferenceIdeal.Run
public import proofs.«01_k».proof.Proof.Rows
public import Idealize.ShloMosaic.Lib.Pointwise
public import Idealize.ShloMosaic.Lib.Routing.OpsOne

@[expose] public section

noncomputable section

namespace Cert.ReferenceIdeal.Loss

open Cert.ReferenceIdeal Cert.ReferenceIdeal.Gen
open Idealize.ShloMosaic

/-- The row number of every label, and the label: the pairs of indices the confident weight is written at. -/
def pairs (y : IVec S2048 32) : IVec S2048x2 32 :=
  concatenate S2048x2 1
    [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩,
     ⟨S2048x1, (broadcastInDim S2048x1 ![0] bcast_S2048_S2048x1_0 (select (cmpi .slt y (broadcastInDim S2048 ![] bcast_S_S2048 (constantI S_ 32 0#32))) (addi y (broadcastInDim S2048 ![] bcast_S_S2048 (constantI S_ 32 100000#32))) y))⟩]
    concatenates_S2048x1_S2048x1_S2048x2_d1

/-- The smoothing weight everywhere but at the labels, where the confident one is. -/
def labelled (y : IVec S2048 32) : FVec Ideal S2048x100000 .f32 :=
  Host.scatter scatter_S2048x100000_S2048x2_S2048_n_01_01_1 (fun _ b => b)
    (broadcastInDim S2048x100000 ![] bcast_S_S2048x100000 (constant S_ .f32 0x3586386D#32)) (pairs y)
    (broadcastInDim S2048 ![] bcast_S_S2048 (constant S_ .f32 0x3F666666#32))

/-- The same with column 0 cleared. -/
def cleared (y : IVec S2048 32) : FVec Ideal S2048x100000 .f32 :=
  Host.scatter scatter_S2048x100000_S1_S2048_0_1_1_0 (fun _ b => b) (labelled y)
    (broadcastInDim S1 ![] bcast_S_S1 (constantI S_ 32 0#32)) (broadcastInDim S2048 ![] bcast_S_S2048 (constant S_ .f32 0x00000000#32))

/-- The weights: the same with the padding label's rows cleared. -/
def weights (y : IVec S2048 32) : FVec Ideal S2048x100000 .f32 :=
  select (broadcastInDim S2048x100000 ![0, 1] bcast_S2048x1_S2048x100000_0_1 (broadcastInDim S2048x1 ![0] bcast_S2048_S2048x1_0 (cmpi .eq y (broadcastInDim S2048 ![] bcast_S_S2048 (constantI S_ 32 0#32)))))
    (broadcastInDim S2048x100000 ![] bcast_S_S2048x100000 (id (constant S_ .f32 0x00000000#32))) (cleared y)

variable {y : IVec S2048 32} {Y : ℕ → ℕ}

/-- A word below the sign bit is not wrapped. -/
theorem wrap_small (n : ℕ) (h : n < 100000) (a : BitVec 32) :
    Scalar.select (IntOp.cmpi .slt (BitVec.ofNat 32 n) 0#32) a (BitVec.ofNat 32 n) = BitVec.ofNat 32 n :=
  Routing.wrap_of_lt _ a (by rw [WordCmp.toNat_ofNat_of_lt (by omega)]; omega)

/-- The first index of a pair is the row's number. -/
theorem pairs_row (b : Fin 2048) : pairs y (ix2 b 0) = BitVec.ofNat 32 b.val := by
  unfold pairs
  pointwise
  exact wrap_small _ (by have := b.isLt; omega) _

/-- The second is the row's label. -/
theorem pairs_col (hy : ∀ i : S2048.Idx, y i = BitVec.ofNat 32 (Y (i 0).val)) (hY : ∀ i, Y i < 100000) (b : Fin 2048) :
    pairs y (ix2 b 1) = BitVec.ofNat 32 (Y b.val) := by
  unfold pairs
  pointwise
  rw [hy]
  exact wrap_small _ (hY _) _

/-- A pair's update starts at the pair's indices. -/
theorem start_pairs (idx : IVec S2048x2 32) (b : S2048.Idx) (a : Fin 2) :
    (scatter_S2048x100000_S2048x2_S2048_n_01_01_1).start b idx a = (idx (ix2 (b 0) a)).toInt := by
  have hm : a ∈ (scatter_S2048x100000_S2048x2_S2048_n_01_01_1).scatterDimsToOperandDims := by
    show a ∈ ([0, 1] : List (Fin 2))
    fin_cases a <;> simp
  refine (dif_pos hm).trans (congrArg (fun j => (idx j).toInt) (funext fun b' => Fin.ext ?_))
  match a, b' with
  | ⟨0, _⟩, ⟨0, _⟩ => rfl
  | ⟨0, _⟩, ⟨1, _⟩ => rfl
  | ⟨1, _⟩, ⟨0, _⟩ => rfl
  | ⟨1, _⟩, ⟨1, _⟩ => rfl

/-- It has no extent. -/
theorem window_pairs (b : S2048.Idx) (a : Fin 2) :
    (scatter_S2048x100000_S2048x2_S2048_n_01_01_1).window b a = 0 := by
  fin_cases a <;> rfl

/-- The update of pair `b` lands at `(i, k)` exactly when `b` is row `i` and its label is `k`. -/
theorem lands_pairs (hy : ∀ i : S2048.Idx, y i = BitVec.ofNat 32 (Y (i 0).val)) (hY : ∀ i, Y i < 100000) (b : S2048.Idx)
    (i : S2048x100000.Idx) :
    (scatter_S2048x100000_S2048x2_S2048_n_01_01_1).resultIdx? b (pairs y) = some i ↔ (b 0).val = (i 0).val ∧ Y (b 0).val = (i 1).val := by
  have e0 : ((pairs y) (ix2 (b 0) 0)).toInt = ((b 0).val : Int) := by
    refine (congrArg BitVec.toInt (pairs_row (b 0))).trans ?_
    exact WordCmp.toInt_ofNat_of_lt (by have : (b 0).val < 2048 := (b 0).isLt; omega)
  have e1 : ((pairs y) (ix2 (b 0) 1)).toInt = (Y (b 0).val : Int) := by
    refine (congrArg BitVec.toInt (pairs_col hy hY (b 0))).trans ?_
    exact WordCmp.toInt_ofNat_of_lt (by have := hY (b 0).val; omega)
  rw [Routing.resultIdx?_eq_some]
  constructor
  · intro h
    have h0 := h 0
    have h1 := h 1
    rw [start_pairs, window_pairs] at h0 h1
    rw [e0] at h0
    rw [e1] at h1
    omega
  · rintro ⟨h0, h1⟩ a
    rw [start_pairs, window_pairs]
    match a with
    | ⟨0, _⟩ => refine (congrArg (· + _) e0).trans ?_; show ((b 0).val : Int) + (0 : ℕ) = _; rw [h0]; rfl
    | ⟨1, _⟩ => refine (congrArg (· + _) e1).trans ?_; show (Y (b 0).val : Int) + (0 : ℕ) = _; rw [h1]; rfl

/-- The labelled weights at an entry. -/
theorem labelled_apply (hy : ∀ i : S2048.Idx, y i = BitVec.ofNat 32 (Y (i 0).val)) (hY : ∀ i, Y i < 100000) (i : S2048x100000.Idx) :
    labelled y i = if (i 1).val = Y (i 0).val then Ideal.ofBits .f32 0x3F666666#32 else Ideal.ofBits .f32 0x3586386D#32 := by
  unfold labelled
  split
  · rename_i h
    exact Routing.scatter_set_hit _ _ _ _ _ _ (fun _ _ => rfl) (ix1 (i 0)) ((lands_pairs hy hY _ _).mpr ⟨rfl, h.symm⟩)
  · rename_i h
    refine Routing.scatter_set_miss _ _ _ _ _ fun b hb => h ?_
    obtain ⟨h0, h1⟩ := (lands_pairs hy hY _ _).mp hb
    rw [← h0, h1]

/-- With column 0 cleared. -/
theorem cleared_apply (hy : ∀ i : S2048.Idx, y i = BitVec.ofNat 32 (Y (i 0).val)) (hY : ∀ i, Y i < 100000) (i : Fin 2048) (k : Fin 100000) :
    cleared y (ix2 i k) = if k.val = 0 then 0 else if k.val = Y i.val then (Cert.KernelIdeal.Block.conf : EReal) else (Cert.KernelIdeal.Block.eps : EReal) := by
  have land := fun w' w e => Routing.lands_col scatter_S2048x100000_S1_S2048_0_1_1_0 rfl rfl
    (broadcastInDim S1 ![] bcast_S_S1 (constantI S_ 32 0#32)) (0 : Fin 100000) rfl w' w e
  unfold cleared
  split
  · rename_i h
    refine (Routing.scatter_set_hit _ _ _ _ _ (Ideal.ofBits .f32 0x00000000#32) (fun _ _ => rfl) (ix1 i) ?_).trans Ideal.ofBits_zero_f32
    rw [show (ix2 i k : S2048x100000.Idx) = ValueIdx.ix2 i k from funext fun a => by match a with | ⟨0, _⟩ => rfl | ⟨1, _⟩ => rfl]
    exact (land i i k).mpr ⟨rfl, Fin.ext h⟩
  · rename_i h
    refine (Routing.scatter_set_miss _ _ _ _ _ fun b hb => h ?_).trans ?_
    · rw [show b = ValueIdx.ix1 (b 0) from funext fun a => by match a with | ⟨0, _⟩ => rfl,
        show (ix2 i k : S2048x100000.Idx) = ValueIdx.ix2 i k from funext fun a => by match a with | ⟨0, _⟩ => rfl | ⟨1, _⟩ => rfl] at hb
      exact congrArg Fin.val ((land (b 0) i k).mp hb).2
    · rw [labelled_apply hy hY, Cert.KernelIdeal.Block.conf_word, Cert.KernelIdeal.Block.eps_word]; rfl

/-- The weights at an entry. -/
theorem weights_apply (hy : ∀ i : S2048.Idx, y i = BitVec.ofNat 32 (Y (i 0).val)) (hY : ∀ i, Y i < 100000) (i : Fin 2048) (k : Fin 100000) :
    weights y (ix2 i k) = if Y i.val = 0 then 0 else if k.val = 0 then 0
      else if k.val = Y i.val then (Cert.KernelIdeal.Block.conf : EReal) else (Cert.KernelIdeal.Block.eps : EReal) := by
  unfold weights
  pointwise
  rw [hy, cleared_apply hy hY]
  have hw : IntOp.cmpi .eq (BitVec.ofNat 32 (Y i.val)) 0#32 = if Y i.val = 0 then 1#1 else 0#1 := by
    have := hY i.val
    split
    · rename_i h; rw [h]; rfl
    · word_cmp
  show Scalar.select (IntOp.cmpi .eq (BitVec.ofNat 32 (Y i.val)) 0#32) _ _ = _
  rw [hw]
  split
  · exact Ideal.ofBits_zero_f32
  · rfl

end Cert.ReferenceIdeal.Loss

end
-- ==== Proof.LogSoftmax.lean ====
/-
  The reference's log-probabilities, entry by entry: the logit less the row's log-sum-of-exponentials.
-/
module

public import proofs.«01_k».proof.Proof.Gen.ReferenceIdeal
public import proofs.«01_k».proof.Proof.Gen.ReferenceIdeal.Run
public import proofs.«01_k».proof.Proof.Rows
public import Idealize.ShloMosaic.Lib.Pointwise

@[expose] public section

noncomputable section

namespace Cert.ReferenceIdeal.Loss

open Cert.ReferenceIdeal Cert.ReferenceIdeal.Gen
open Idealize.ShloMosaic
open Cert.KernelIdeal.Block (fold_max_real coe_sum negInf_word log_pos_coe)

/-- Every row's maximum, at every entry of the row. -/
def top (x : FVec Ideal S2048x100000 .f32) : FVec Ideal S2048x100000 .f32 :=
  broadcastInDim S2048x100000 ![0, 1] bcast_S2048x1_S2048x100000_0_1 (broadcastInDim S2048x1 ![0] bcast_S2048_S2048x1_0 (maximumf (broadcastInDim S2048 ![] bcast_S_S2048 (constant S_ .f32 0xFF800000#32)) (Host.reduce FloatOps.maximumf x (constant S_ .f32 0xFF800000#32) reducesTo_S2048x100000_S2048_d1 h_S_)))

/-- The log-probabilities. -/
def logp (x : FVec Ideal S2048x100000 .f32) : FVec Ideal S2048x100000 .f32 :=
  subf (subf x (top x)) (broadcastInDim S2048x100000 ![0, 1] bcast_S2048x1_S2048x100000_0_1 (Host.log (broadcastInDim S2048x1 ![0] bcast_S2048_S2048x1_0 (Host.reduceAdd (Host.exp (subf x (top x))) (constant S_ .f32 0x00000000#32) reducesTo_S2048x100000_S2048_d1 h_S_))))

/-- A row's maximum is taken over its columns. -/
theorem reduce_row (x : FVec Ideal S2048x100000 .f32) (i : Fin 2048) :
    Host.reduce FloatOps.maximumf x (constant S_ .f32 0xFF800000#32) reducesTo_S2048x100000_S2048_d1 h_S_ (ix1 i)
      = Finset.univ.fold max (Ideal.ofBits .f32 0xFF800000#32) fun k : Fin 100000 => x (ix2 i k) := by
  pointwise

/-- Every entry of a row holds the maximum of the row and `−∞`. -/
theorem spread_row (y : FVec Ideal S2048 .f32) (i : Fin 2048) (k : Fin 100000) :
    broadcastInDim S2048x100000 ![0, 1] bcast_S2048x1_S2048x100000_0_1 (broadcastInDim S2048x1 ![0] bcast_S2048_S2048x1_0
        (maximumf (broadcastInDim S2048 ![] bcast_S_S2048 (constant S_ .f32 0xFF800000#32)) y)) (ix2 i k)
      = max (Ideal.ofBits .f32 0xFF800000#32) (y (ix1 i)) := by
  pointwise

variable {x : FVec Ideal S2048x100000 .f32} {r : ℕ → ℕ → ℝ}

/-- A row's maximum is a real number, the same at each of its entries. -/
theorem top_apply (hx : ∀ i : S2048x100000.Idx, x i = (r (i 0).val (i 1).val : EReal)) (i : Fin 2048) :
    ∃ M : ℝ, ∀ k : Fin 100000, top x (ix2 i k) = (M : EReal) := by
  obtain ⟨M, hM⟩ := fold_max_real Finset.univ ⟨(0 : Fin 100000), Finset.mem_univ _⟩ (fun k => x (ix2 i k)) fun k => ⟨_, hx _⟩
  refine ⟨M, fun k => (spread_row _ i k).trans ?_⟩
  rw [reduce_row, negInf_word, hM]
  exact max_eq_right bot_le

/-- The log-probability of an entry, from the row's entries less their maximum. -/
theorem logp_open (x : FVec Ideal S2048x100000 .f32) (i : Fin 2048) (k : Fin 100000) :
    logp x (ix2 i k) = x (ix2 i k) - top x (ix2 i k) - Ideal.log (∑ q : Fin 100000, Ideal.exp (x (ix2 i q) - top x (ix2 i q))) := by
  unfold logp
  pointwise

/-- The log-probability at an entry. -/
theorem logp_apply (hx : ∀ i : S2048x100000.Idx, x i = (r (i 0).val (i 1).val : EReal)) (i : Fin 2048) (k : Fin 100000) :
    logp x (ix2 i k) = ((r i.val k.val - Cert.KernelIdeal.Sums.logSum (r i.val) 0 : ℝ) : EReal) := by
  obtain ⟨M, hM⟩ := top_apply hx i
  have hs : ∑ q : Fin 100000, Ideal.exp (x (ix2 i q) - top x (ix2 i q)) = ((∑ k ∈ Finset.range 100000, Real.exp (r i.val k - M) : ℝ) : EReal) := by
    rw [← Fin.sum_univ_eq_sum_range (fun k => Real.exp (r i.val k - M)), ← coe_sum]
    refine Finset.sum_congr rfl fun q _ => ?_
    rw [hM, hx, ← EReal.coe_sub, Ideal.exp_coe]
    rfl
  rw [logp_open, hs, hM, hx, log_pos_coe (Cert.KernelIdeal.Sums.expSum_pos _ _), ← Cert.KernelIdeal.Sums.logSum_eq _ M, ← EReal.coe_sub, ← EReal.coe_sub]
  refine congrArg _ ?_
  show r i.val k.val - M - _ = r i.val k.val - (M + _)
  ring

end Cert.ReferenceIdeal.Loss

end
-- ==== Proof.Reference.lean ====
/-
  The reference's result: the sum of its rows' losses, where the logits are real numbers and the labels in range.
-/
module

public import proofs.«01_k».proof.Proof.Weights
public import proofs.«01_k».proof.Proof.LogSoftmax

@[expose] public section

noncomputable section

namespace Cert.ReferenceIdeal.Loss

open Cert.ReferenceIdeal Cert.ReferenceIdeal.Gen
open Idealize.ShloMosaic
open Cert.KernelIdeal.Block (eps conf eps_pos conf_pos coe_sum log_pos_coe)

/-- The sum, over every entry of positive weight, of the weight times its logarithm less the log-probability. -/
def total (W LP : FVec Ideal S2048x100000 .f32) : FVec Ideal S_ .f32 :=
  Host.reduceAdd
    (select (cmpf .ogt W (broadcastInDim S2048x100000 ![] bcast_S_S2048x100000 (constant S_ .f32 0x00000000#32)))
      (mulf W (subf (Host.log (select (cmpf .ogt W (broadcastInDim S2048x100000 ![] bcast_S_S2048x100000 (constant S_ .f32 0x00000000#32))) W
        (broadcastInDim S2048x100000 ![] bcast_S_S2048x100000 (id (constant S_ .f32 0x3F800000#32))))) LP))
      (broadcastInDim S2048x100000 ![] bcast_S_S2048x100000 (id (constant S_ .f32 0x00000000#32))))
    (constant S_ .f32 0x00000000#32) reducesTo_S2048x100000_S_d0_1 h_S_

/-- The reference's result is that sum, of its weights and its log-probabilities. -/
theorem result_total (m : (ℓ : Loc nD τ sig) → Buf (Elt Ideal) ℓ) (c : Dev nD) :
    Value.res_main_v34 m c = total (weights (m ((c.tc : Thread nD τ).loc main_arg1))) (logp (m ((c.tc : Thread nD τ).loc main_arg0))) := rfl

/-- One entry's share of the sum: nothing at weight zero. -/
def share (w p : EReal) : EReal := if 0 < w then w * (Ideal.log w - p) else 0

/-- The sum, row by row and column by column. -/
theorem total_apply (W LP : FVec Ideal S2048x100000 .f32) (i : S_.Idx) :
    total W LP i = ∑ a : Fin 2048, ∑ b : Fin 100000, share (W (ix2 a b)) (LP (ix2 a b)) := by
  unfold total
  pointwise
  refine Finset.sum_congr rfl fun a _ => Finset.sum_congr rfl fun b _ => ?_
  unfold share
  split
  · rfl
  · exact Ideal.ofBits_zero_f32

/-- An entry of no weight has no share. -/
theorem share_zero (p : EReal) : share 0 p = 0 := if_neg (lt_irrefl _)

/-- An entry of positive real weight. -/
theorem share_pos (w p : ℝ) (hw : 0 < w) : share (w : EReal) (p : EReal) = ((w * (Real.log w - p) : ℝ) : EReal) := by
  unfold share
  rw [if_pos (EReal.coe_pos.mpr hw), log_pos_coe hw, ← EReal.coe_sub, ← EReal.coe_mul]

variable {x : FVec Ideal S2048x100000 .f32} {r : ℕ → ℕ → ℝ} {y : IVec S2048 32} {Y : ℕ → ℕ}

/-- The share of an entry under its weight. -/
theorem share_entry (q : ℕ → ℝ) (n k : ℕ) (L : ℝ) :
    share (if n = 0 then 0 else if k = 0 then 0 else if k = n then (conf : EReal) else (eps : EReal)) ((q k - L : ℝ) : EReal)
      = ((if n = 0 then 0 else Cert.KernelIdeal.Sums.entry q n eps conf L k : ℝ) : EReal) := by
  unfold Cert.KernelIdeal.Sums.entry
  by_cases h0 : n = 0
  · rw [if_pos h0, if_pos h0, share_zero]; rfl
  rw [if_neg h0, if_neg h0]
  by_cases h1 : k = 0
  · rw [if_pos h1, if_pos h1, share_zero]; rfl
  rw [if_neg h1, if_neg h1]
  by_cases h2 : k = n
  · rw [if_pos h2, if_pos h2, share_pos _ _ conf_pos]
  · rw [if_neg h2, if_neg h2, share_pos _ _ eps_pos]

/-- The sum over real logits and labels in range is the sum of the rows' losses. -/
theorem total_real (hx : ∀ i : S2048x100000.Idx, x i = (r (i 0).val (i 1).val : EReal))
    (hy : ∀ i : S2048.Idx, y i = BitVec.ofNat 32 (Y (i 0).val)) (hY : ∀ i, Y i < 100000) :
    total (weights y) (logp x)
      = fun _ => ((∑ k ∈ Finset.range 2048, Cert.KernelIdeal.Sums.rowValue (r k) (Y k) eps conf : ℝ) : EReal) := by
  funext i
  rw [total_apply, ← Fin.sum_univ_eq_sum_range (fun k => Cert.KernelIdeal.Sums.rowValue (r k) (Y k) eps conf), ← coe_sum]
  refine Finset.sum_congr rfl fun a _ => ?_
  have hrow : Cert.KernelIdeal.Sums.rowValue (r a.val) (Y a.val) eps conf
      = ∑ k ∈ Finset.range 100000, if Y a.val = 0 then 0 else Cert.KernelIdeal.Sums.entry (r a.val) (Y a.val) eps conf (Cert.KernelIdeal.Sums.logSum (r a.val) 0) k := by
    unfold Cert.KernelIdeal.Sums.rowValue
    split
    · exact Finset.sum_const_zero.symm
    · rfl
  rw [hrow, ← Fin.sum_univ_eq_sum_range (fun k => if Y a.val = 0 then (0 : ℝ) else Cert.KernelIdeal.Sums.entry (r a.val) (Y a.val) eps conf (Cert.KernelIdeal.Sums.logSum (r a.val) 0) k), ← coe_sum]
  refine Finset.sum_congr rfl fun b _ => ?_
  rw [weights_apply hy hY, logp_apply hx, share_entry]

end Cert.ReferenceIdeal.Loss

end
-- ==== Proof.InRange.lean ====
/-
  What the precondition says of the two arguments: every logit is a real number, every label a number below 100000.
-/
module

public import proofs.«01_k».proof.Pre_finite_and_in_range
public import Idealize.ShloMosaic.PureOps.Ideal
public import Idealize.ShloMosaic.Lib.Pointwise
public import Idealize.ShloMosaic.Lib.WordCmp

@[expose] public section

noncomputable section

namespace Cert.Pre_finite_and_in_range

open Idealize.ShloMosaic

/-- The shape relations the precondition's operations take. -/
theorem facts : Facts where
  bcast_S_S2048x100000 := by decide
  bcast_S_S2048 := by decide
  bcast_S2048_S2048x1_0 := by decide
  bcast_S2048x1_S2048x100000_0_1 := by decide

/-- The bound on a logit's magnitude is `+∞`. -/
theorem posInf_word : Ideal.ofBits .f32 0x7F800000#32 = ⊤ := by
  simp [Ideal.ofBits, Ideal.ieee]

/-- A number whose magnitude is below `+∞` is real. -/
theorem real_of_abs (a : EReal) (h : max a (-a) < ⊤) : a = (a.toReal : EReal) := by
  refine (EReal.coe_toReal ?_ ?_).symm
  · rintro rfl; simp at h
  · rintro rfl; simp at h

/-- Two bits whose conjunction is set are both set. -/
theorem both_of_and (a b : BitVec 1) (h : IntOp.andi a b = 1#1) : a = 1#1 ∧ b = 1#1 := by
  revert a b
  decide

/-- A bit that is set comes from a truth. -/
theorem set_of_ofBool (b : Bool) (h : BitVec.ofBool b = 1#1) : b = true := by
  revert b
  decide

/-- A word not below zero and below 100000 is the word of a number below 100000. -/
theorem small_of_word (w : BitVec 32) (h : IntOp.andi (IntOp.cmpi .sge w 0#32) (IntOp.cmpi .slt w 100000#32) = 1#1) :
    w.toNat < 100000 := by
  obtain ⟨h1, h2⟩ := both_of_and _ _ h
  rw [WordCmp.cmpi_sge_eq] at h1
  rw [WordCmp.cmpi_slt_eq] at h2
  have h1 := of_decide_eq_true (set_of_ofBool _ h1)
  have h2 := of_decide_eq_true (set_of_ofBool _ h2)
  rw [show (0#32).toInt = 0 from rfl] at h1
  rw [show (100000#32).toInt = 100000 from rfl] at h2
  rw [BitVec.toInt_eq_toNat_cond] at h1 h2
  split at h1 <;> omega

/-- The precondition at an entry. -/
theorem fn_apply [Facts] (x : FVec Ideal S2048x100000 .f32) (y : IVec S2048 32) (i : Fin 2048) (k : Fin 100000) (h : fn x y (ix2 i k) = 1#1) :
    max (x (ix2 i k)) (-(x (ix2 i k))) < ⊤ ∧ (y (ix1 i)).toNat < 100000 := by
  unfold fn at h
  revert h
  pointwise
  intro h
  obtain ⟨h1, h2⟩ := both_of_and _ _ h
  refine ⟨?_, small_of_word _ h2⟩
  rw [posInf_word] at h1
  exact of_decide_eq_true (set_of_ofBool _ h1)

/-- The logits, as reals (0 outside the array). -/
def logits (x : FVec Ideal S2048x100000 .f32) (i k : ℕ) : ℝ :=
  if h : i < 2048 ∧ k < 100000 then (x (ix2 ⟨i, h.1⟩ ⟨k, h.2⟩) : EReal).toReal else 0

/-- The labels, as numbers (0 outside the array). -/
def label (y : IVec S2048 32) (i : ℕ) : ℕ :=
  if h : i < 2048 then (y (ix1 ⟨i, h⟩)).toNat else 0

variable [Facts] {x : FVec Ideal S2048x100000 .f32} {y : IVec S2048 32}

/-- Under the precondition the logits array holds the reals. -/
theorem logits_eq (h : fn x y = fun _ => 1#1) (i : S2048x100000.Idx) : x i = (logits x (i 0).val (i 1).val : EReal) := by
  have hi : i = ix2 (i 0) (i 1) := funext fun a => by match a with | ⟨0, _⟩ => rfl | ⟨1, _⟩ => rfl
  have hr := real_of_abs _ (fn_apply x y (i 0) (i 1) (congrFun h _)).1
  have hn : logits x (i 0).val (i 1).val = (x (ix2 (i 0) (i 1)) : EReal).toReal :=
    dif_pos (show (i 0).val < 2048 ∧ (i 1).val < 100000 from ⟨(i 0).isLt, (i 1).isLt⟩)
  rw [hn]
  exact (congrArg x hi).trans hr

/-- And the labels array the numbers. -/
theorem label_eq (y : IVec S2048 32) (i : S2048.Idx) : y i = BitVec.ofNat 32 (label y (i 0).val) := by
  have hi : i = ix1 (i 0) := funext fun a => by match a with | ⟨0, _⟩ => rfl
  have hn : label y (i 0).val = (y (ix1 (i 0))).toNat := dif_pos (show (i 0).val < 2048 from (i 0).isLt)
  rw [hn]
  exact (congrArg y hi).trans (BitVec.eq_of_toNat_eq (by simp))

/-- Under the precondition every label is in range. -/
theorem label_lt (h : fn x y = fun _ => 1#1) (i : ℕ) : label y i < 100000 := by
  unfold label
  split
  · exact (fn_apply x y _ 0 (congrFun h _)).2
  · decide

end Cert.Pre_finite_and_in_range

end
-- ==== Proof.lean ====
/-
  The proof of `Cert.Claim`: the programs' stated facts, the frames, and the values.
-/
module

public import proofs.«01_k».proof.Defs
public import proofs.«01_k».proof.Proof.BitsFrame
public import proofs.«01_k».proof.Proof.Result
public import proofs.«01_k».proof.Proof.Reference
public import proofs.«01_k».proof.Proof.InRange
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Cert.Pre_finite_and_in_range (logits label logits_eq label_eq label_lt)

/-- The reference leaves its arguments and its counters as they were. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant denotes its table's value. -/
theorem preserves : Cert.preserves_Kernel_KernelIdeal :=
  IdealRules.named_const.statement Cert.KernelIdeal.κ "smooth" .f32 0x3DCCCCCD#32 ((439804653731 / 4398046511104 : ℝ) : EReal) rfl

/-- From memories that hold the same real logits and the same labels in range, the kernel and the reference both return
    the sum of the rows' losses. -/
theorem values [hPre : Cert.Pre_finite_and_in_range.Facts] : Cert.algebraic_KernelIdeal_ReferenceIdeal_pre_finite_and_in_range := by
  intro m ρ m' ρ' hpre hm
  have hin : ∀ c, Cert.KernelIdeal.Body.Inputs m c
      (logits (m ((c.tc : Thread Cert.KernelIdeal.nD Cert.KernelIdeal.τ).loc Cert.KernelIdeal.main_arg0)))
      (label (m ((c.tc : Thread Cert.KernelIdeal.nD Cert.KernelIdeal.τ).loc Cert.KernelIdeal.main_arg1))) := fun c =>
    ⟨logits_eq (hpre c), label_eq _, label_lt (hpre c)⟩
  refine ⟨_, Cert.KernelIdeal.Body.returns ρ hin, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Loss.result_total, (hm c).1, (hm c).2]
  exact Cert.ReferenceIdeal.Loss.total_real (hin c).values (hin c).labels (hin c).bound

/-- Every claim of the certificate. -/
theorem claim : Cert.Claim :=
  ⟨Cert.Kernel.Gen.facts, Cert.KernelIdeal.Gen.facts, Cert.ReferenceIdeal.Gen.facts, Cert.Pre_finite_and_in_range.facts,
    fun m ρ _ => Cert.Kernel.Body.quiescent m ρ, fun m ρ _ => Cert.KernelIdeal.Body.quiescent m ρ,
    fun m ρ _ => Cert.KernelIdeal.Body.quiescent m ρ, frame_reference, fun m ρ _ => frame_reference m ρ trivial, preserves,
    values (hPre := Cert.Pre_finite_and_in_range.facts)⟩

end Cert.Proof

end
